-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S16x32x512 : Shape := ⟨3, ![16, 32, 512]⟩
abbrev S16 : Shape := ⟨1, ![16]⟩
abbrev S_ : Shape := ⟨0, ![]⟩
abbrev S1 : Shape := ⟨1, ![1]⟩
abbrev S1x32x512 : Shape := ⟨3, ![1, 32, 512]⟩
abbrev S32x512 : Shape := ⟨2, ![32, 512]⟩
abbrev S32x256 : Shape := ⟨2, ![32, 256]⟩

abbrev nBuf : Space → Nat
  | .hbm => 8
  | .vmem => 11
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x256, .f32⟩
  | .hbm, ⟨3, _⟩ => ⟨S256x512, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S512x256, .f32⟩
  | .local _ .vmem, ⟨0, _⟩ => ⟨S512x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S512x256, .f32⟩
  | .local _ .vmem, ⟨8, _⟩ => ⟨S512x512, .bf16⟩
  | .local _ .vmem, ⟨9, _⟩ => ⟨S16x32x512, .bf16⟩
  | .local _ .vmem, ⟨10, _⟩ => ⟨S512x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_66 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v75 : BitVec 32 := Scalar.addi v2 c1_i32_66
  let c16_i32_67 : BitVec 32 := 16#32
  let v76 : BitVec 32 := Scalar.remsi v75 c16_i32_67
  let c32_i32 : BitVec 32 := 32#32
  let v77 : BitVec 32 := Scalar.muli v76 c32_i32
  let c0_i32_75 : BitVec 32 := 0#32
  ![v77.toNat, 0]
def k0_dev16 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_66 : BitVec 32 := 1#32
  let v75 : BitVec 32 := Scalar.addi v2 c1_i32_66
  let c16_i32_67 : BitVec 32 := 16#32
  let v76 : BitVec 32 := Scalar.remsi v75 c16_i32_67
  let c1_i32_71 : BitVec 32 := 1#32
  let v78 : BitVec 32 := Scalar.muli v76 c1_i32_71
  let v79 : BitVec 32 := Scalar.addi c0_i32_72 v78
  v79.toNat
def k0_dev17 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_76 : BitVec 32 := 2#32
  let v87 : BitVec 32 := Scalar.addi v2 c2_i32_76
  let c16_i32_77 : BitVec 32 := 16#32
  let v88 : BitVec 32 := Scalar.remsi v87 c16_i32_77
  let c1_i32_82 : BitVec 32 := 1#32
  let v90 : BitVec 32 := Scalar.muli v88 c1_i32_82
  let v91 : BitVec 32 := Scalar.addi c0_i32_83 v90
  v91.toNat
def k0_dev18 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_87 : BitVec 32 := 3#32
  let v99 : BitVec 32 := Scalar.addi v2 c3_i32_87
  let c16_i32_88 : BitVec 32 := 16#32
  let v100 : BitVec 32 := Scalar.remsi v99 c16_i32_88
  let c1_i32_93 : BitVec 32 := 1#32
  let v102 : BitVec 32 := Scalar.muli v100 c1_i32_93
  let v103 : BitVec 32 := Scalar.addi c0_i32_94 v102
  v103.toNat
def k0_dev19 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_98 : BitVec 32 := 4#32
  let v111 : BitVec 32 := Scalar.addi v2 c4_i32_98
  let c16_i32_99 : BitVec 32 := 16#32
  let v112 : BitVec 32 := Scalar.remsi v111 c16_i32_99
  let c1_i32_104 : BitVec 32 := 1#32
  let v114 : BitVec 32 := Scalar.muli v112 c1_i32_104
  let v115 : BitVec 32 := Scalar.addi c0_i32_105 v114
  v115.toNat
def k0_dev20 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_109 : BitVec 32 := 5#32
  let v123 : BitVec 32 := Scalar.addi v2 c5_i32_109
  let c16_i32_110 : BitVec 32 := 16#32
  let v124 : BitVec 32 := Scalar.remsi v123 c16_i32_110
  let c1_i32_115 : BitVec 32 := 1#32
  let v126 : BitVec 32 := Scalar.muli v124 c1_i32_115
  let v127 : BitVec 32 := Scalar.addi c0_i32_116 v126
  v127.toNat
def k0_dev21 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_120 : BitVec 32 := 6#32
  let v135 : BitVec 32 := Scalar.addi v2 c6_i32_120
  let c16_i32_121 : BitVec 32 := 16#32
  let v136 : BitVec 32 := Scalar.remsi v135 c16_i32_121
  let c1_i32_126 : BitVec 32 := 1#32
  let v138 : BitVec 32 := Scalar.muli v136 c1_i32_126
  let v139 : BitVec 32 := Scalar.addi c0_i32_127 v138
  v139.toNat
def k0_dev22 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_131 : BitVec 32 := 7#32
  let v147 : BitVec 32 := Scalar.addi v2 c7_i32_131
  let c16_i32_132 : BitVec 32 := 16#32
  let v148 : BitVec 32 := Scalar.remsi v147 c16_i32_132
  let c1_i32_137 : BitVec 32 := 1#32
  let v150 : BitVec 32 := Scalar.muli v148 c1_i32_137
  let v151 : BitVec 32 := Scalar.addi c0_i32_138 v150
  v151.toNat
def k0_dev23 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_142 : BitVec 32 := 8#32
  let v159 : BitVec 32 := Scalar.addi v2 c8_i32_142
  let c16_i32_143 : BitVec 32 := 16#32
  let v160 : BitVec 32 := Scalar.remsi v159 c16_i32_143
  let c1_i32_148 : BitVec 32 := 1#32
  let v162 : BitVec 32 := Scalar.muli v160 c1_i32_148
  let v163 : BitVec 32 := Scalar.addi c0_i32_149 v162
  v163.toNat
def k0_dev24 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_153 : BitVec 32 := 9#32
  let v171 : BitVec 32 := Scalar.addi v2 c9_i32_153
  let c16_i32_154 : BitVec 32 := 16#32
  let v172 : BitVec 32 := Scalar.remsi v171 c16_i32_154
  let c1_i32_159 : BitVec 32 := 1#32
  let v174 : BitVec 32 := Scalar.muli v172 c1_i32_159
  let v175 : BitVec 32 := Scalar.addi c0_i32_160 v174
  v175.toNat
def k0_dev25 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_164 : BitVec 32 := 10#32
  let v183 : BitVec 32 := Scalar.addi v2 c10_i32_164
  let c16_i32_165 : BitVec 32 := 16#32
  let v184 : BitVec 32 := Scalar.remsi v183 c16_i32_165
  let c1_i32_170 : BitVec 32 := 1#32
  let v186 : BitVec 32 := Scalar.muli v184 c1_i32_170
  let v187 : BitVec 32 := Scalar.addi c0_i32_171 v186
  v187.toNat
def k0_dev26 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_175 : BitVec 32 := 11#32
  let v195 : BitVec 32 := Scalar.addi v2 c11_i32_175
  let c16_i32_176 : BitVec 32 := 16#32
  let v196 : BitVec 32 := Scalar.remsi v195 c16_i32_176
  let c1_i32_181 : BitVec 32 := 1#32
  let v198 : BitVec 32 := Scalar.muli v196 c1_i32_181
  let v199 : BitVec 32 := Scalar.addi c0_i32_182 v198
  v199.toNat
def k0_dev27 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_186 : BitVec 32 := 12#32
  let v207 : BitVec 32 := Scalar.addi v2 c12_i32_186
  let c16_i32_187 : BitVec 32 := 16#32
  let v208 : BitVec 32 := Scalar.remsi v207 c16_i32_187
  let c1_i32_192 : BitVec 32 := 1#32
  let v210 : BitVec 32 := Scalar.muli v208 c1_i32_192
  let v211 : BitVec 32 := Scalar.addi c0_i32_193 v210
  v211.toNat
def k0_dev28 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_197 : BitVec 32 := 13#32
  let v219 : BitVec 32 := Scalar.addi v2 c13_i32_197
  let c16_i32_198 : BitVec 32 := 16#32
  let v220 : BitVec 32 := Scalar.remsi v219 c16_i32_198
  let c1_i32_203 : BitVec 32 := 1#32
  let v222 : BitVec 32 := Scalar.muli v220 c1_i32_203
  let v223 : BitVec 32 := Scalar.addi c0_i32_204 v222
  v223.toNat
def k0_dev29 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_208 : BitVec 32 := 14#32
  let v231 : BitVec 32 := Scalar.addi v2 c14_i32_208
  let c16_i32_209 : BitVec 32 := 16#32
  let v232 : BitVec 32 := Scalar.remsi v231 c16_i32_209
  let c1_i32_214 : BitVec 32 := 1#32
  let v234 : BitVec 32 := Scalar.muli v232 c1_i32_214
  let v235 : BitVec 32 := Scalar.addi c0_i32_215 v234
  v235.toNat
def k0_dev30 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_219 : BitVec 32 := 15#32
  let v243 : BitVec 32 := Scalar.addi v2 c15_i32_219
  let c16_i32_220 : BitVec 32 := 16#32
  let v244 : BitVec 32 := Scalar.remsi v243 c16_i32_220
  let c1_i32_225 : BitVec 32 := 1#32
  let v246 : BitVec 32 := Scalar.muli v244 c1_i32_225
  let v247 : BitVec 32 := Scalar.addi c0_i32_226 v246
  v247.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_230 : BitVec 32 := 32#32
  let v255 : BitVec 32 := Scalar.muli v2 c32_i32_230
  let v256 : Index := Scalar.indexCast v255
  let c0_231 : Index := 0#32
  ![v256.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_418 : BitVec 32 := 32#32
  let v450 : BitVec 32 := Scalar.muli v2 c32_i32_418
  let c0_i32_423 : BitVec 32 := 0#32
  ![v450.toNat, 0]
def k0_dev31 (d0 : Dev nD) : Nat :=
  let c0_i32_422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_415 : BitVec 32 := 1#32
  let v447 : BitVec 32 := Scalar.addi v2 c1_i32_415
  let c16_i32_416 : BitVec 32 := 16#32
  let v448 : BitVec 32 := Scalar.remsi v447 c16_i32_416
  let c1_i32_421 : BitVec 32 := 1#32
  let v451 : BitVec 32 := Scalar.muli v448 c1_i32_421
  let v452 : BitVec 32 := Scalar.addi c0_i32_422 v451
  v452.toNat
def k0_dev32 (d0 : Dev nD) : Nat :=
  let c0_i32_432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_425 : BitVec 32 := 2#32
  let v459 : BitVec 32 := Scalar.addi v2 c2_i32_425
  let c16_i32_426 : BitVec 32 := 16#32
  let v460 : BitVec 32 := Scalar.remsi v459 c16_i32_426
  let c1_i32_431 : BitVec 32 := 1#32
  let v463 : BitVec 32 := Scalar.muli v460 c1_i32_431
  let v464 : BitVec 32 := Scalar.addi c0_i32_432 v463
  v464.toNat
def k0_dev33 (d0 : Dev nD) : Nat :=
  let c0_i32_442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_435 : BitVec 32 := 3#32
  let v471 : BitVec 32 := Scalar.addi v2 c3_i32_435
  let c16_i32_436 : BitVec 32 := 16#32
  let v472 : BitVec 32 := Scalar.remsi v471 c16_i32_436
  let c1_i32_441 : BitVec 32 := 1#32
  let v475 : BitVec 32 := Scalar.muli v472 c1_i32_441
  let v476 : BitVec 32 := Scalar.addi c0_i32_442 v475
  v476.toNat
def k0_dev34 (d0 : Dev nD) : Nat :=
  let c0_i32_452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_445 : BitVec 32 := 4#32
  let v483 : BitVec 32 := Scalar.addi v2 c4_i32_445
  let c16_i32_446 : BitVec 32 := 16#32
  let v484 : BitVec 32 := Scalar.remsi v483 c16_i32_446
  let c1_i32_451 : BitVec 32 := 1#32
  let v487 : BitVec 32 := Scalar.muli v484 c1_i32_451
  let v488 : BitVec 32 := Scalar.addi c0_i32_452 v487
  v488.toNat
def k0_dev35 (d0 : Dev nD) : Nat :=
  let c0_i32_462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_455 : BitVec 32 := 5#32
  let v495 : BitVec 32 := Scalar.addi v2 c5_i32_455
  let c16_i32_456 : BitVec 32 := 16#32
  let v496 : BitVec 32 := Scalar.remsi v495 c16_i32_456
  let c1_i32_461 : BitVec 32 := 1#32
  let v499 : BitVec 32 := Scalar.muli v496 c1_i32_461
  let v500 : BitVec 32 := Scalar.addi c0_i32_462 v499
  v500.toNat
def k0_dev36 (d0 : Dev nD) : Nat :=
  let c0_i32_472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_465 : BitVec 32 := 6#32
  let v507 : BitVec 32 := Scalar.addi v2 c6_i32_465
  let c16_i32_466 : BitVec 32 := 16#32
  let v508 : BitVec 32 := Scalar.remsi v507 c16_i32_466
  let c1_i32_471 : BitVec 32 := 1#32
  let v511 : BitVec 32 := Scalar.muli v508 c1_i32_471
  let v512 : BitVec 32 := Scalar.addi c0_i32_472 v511
  v512.toNat
def k0_dev37 (d0 : Dev nD) : Nat :=
  let c0_i32_482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_475 : BitVec 32 := 7#32
  let v519 : BitVec 32 := Scalar.addi v2 c7_i32_475
  let c16_i32_476 : BitVec 32 := 16#32
  let v520 : BitVec 32 := Scalar.remsi v519 c16_i32_476
  let c1_i32_481 : BitVec 32 := 1#32
  let v523 : BitVec 32 := Scalar.muli v520 c1_i32_481
  let v524 : BitVec 32 := Scalar.addi c0_i32_482 v523
  v524.toNat
def k0_dev38 (d0 : Dev nD) : Nat :=
  let c0_i32_492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_485 : BitVec 32 := 8#32
  let v531 : BitVec 32 := Scalar.addi v2 c8_i32_485
  let c16_i32_486 : BitVec 32 := 16#32
  let v532 : BitVec 32 := Scalar.remsi v531 c16_i32_486
  let c1_i32_491 : BitVec 32 := 1#32
  let v535 : BitVec 32 := Scalar.muli v532 c1_i32_491
  let v536 : BitVec 32 := Scalar.addi c0_i32_492 v535
  v536.toNat
def k0_dev39 (d0 : Dev nD) : Nat :=
  let c0_i32_502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_495 : BitVec 32 := 9#32
  let v543 : BitVec 32 := Scalar.addi v2 c9_i32_495
  let c16_i32_496 : BitVec 32 := 16#32
  let v544 : BitVec 32 := Scalar.remsi v543 c16_i32_496
  let c1_i32_501 : BitVec 32 := 1#32
  let v547 : BitVec 32 := Scalar.muli v544 c1_i32_501
  let v548 : BitVec 32 := Scalar.addi c0_i32_502 v547
  v548.toNat
def k0_dev40 (d0 : Dev nD) : Nat :=
  let c0_i32_512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_505 : BitVec 32 := 10#32
  let v555 : BitVec 32 := Scalar.addi v2 c10_i32_505
  let c16_i32_506 : BitVec 32 := 16#32
  let v556 : BitVec 32 := Scalar.remsi v555 c16_i32_506
  let c1_i32_511 : BitVec 32 := 1#32
  let v559 : BitVec 32 := Scalar.muli v556 c1_i32_511
  let v560 : BitVec 32 := Scalar.addi c0_i32_512 v559
  v560.toNat
def k0_dev41 (d0 : Dev nD) : Nat :=
  let c0_i32_522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_515 : BitVec 32 := 11#32
  let v567 : BitVec 32 := Scalar.addi v2 c11_i32_515
  let c16_i32_516 : BitVec 32 := 16#32
  let v568 : BitVec 32 := Scalar.remsi v567 c16_i32_516
  let c1_i32_521 : BitVec 32 := 1#32
  let v571 : BitVec 32 := Scalar.muli v568 c1_i32_521
  let v572 : BitVec 32 := Scalar.addi c0_i32_522 v571
  v572.toNat
def k0_dev42 (d0 : Dev nD) : Nat :=
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_525 : BitVec 32 := 12#32
  let v579 : BitVec 32 := Scalar.addi v2 c12_i32_525
  let c16_i32_526 : BitVec 32 := 16#32
  let v580 : BitVec 32 := Scalar.remsi v579 c16_i32_526
  let c1_i32_531 : BitVec 32 := 1#32
  let v583 : BitVec 32 := Scalar.muli v580 c1_i32_531
  let v584 : BitVec 32 := Scalar.addi c0_i32_532 v583
  v584.toNat
def k0_dev43 (d0 : Dev nD) : Nat :=
  let c0_i32_542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_535 : BitVec 32 := 13#32
  let v591 : BitVec 32 := Scalar.addi v2 c13_i32_535
  let c16_i32_536 : BitVec 32 := 16#32
  let v592 : BitVec 32 := Scalar.remsi v591 c16_i32_536
  let c1_i32_541 : BitVec 32 := 1#32
  let v595 : BitVec 32 := Scalar.muli v592 c1_i32_541
  let v596 : BitVec 32 := Scalar.addi c0_i32_542 v595
  v596.toNat
def k0_dev44 (d0 : Dev nD) : Nat :=
  let c0_i32_552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_545 : BitVec 32 := 14#32
  let v603 : BitVec 32 := Scalar.addi v2 c14_i32_545
  let c16_i32_546 : BitVec 32 := 16#32
  let v604 : BitVec 32 := Scalar.remsi v603 c16_i32_546
  let c1_i32_551 : BitVec 32 := 1#32
  let v607 : BitVec 32 := Scalar.muli v604 c1_i32_551
  let v608 : BitVec 32 := Scalar.addi c0_i32_552 v607
  v608.toNat
def k0_dev45 (d0 : Dev nD) : Nat :=
  let c0_i32_562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_555 : BitVec 32 := 15#32
  let v615 : BitVec 32 := Scalar.addi v2 c15_i32_555
  let c16_i32_556 : BitVec 32 := 16#32
  let v616 : BitVec 32 := Scalar.remsi v615 c16_i32_556
  let c1_i32_561 : BitVec 32 := 1#32
  let v619 : BitVec 32 := Scalar.muli v616 c1_i32_561
  let v620 : BitVec 32 := Scalar.addi c0_i32_562 v619
  v620.toNat
def k0_off4 (d0 : Dev nD) (c1_i32_571 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v637 : BitVec 32 := Scalar.addi v2 c1_i32_571
  let c16_i32_572 : BitVec 32 := 16#32
  let v638 : BitVec 32 := Scalar.remsi v637 c16_i32_572
  let c32_i32_581 : BitVec 32 := 32#32
  let v647 : BitVec 32 := Scalar.muli v638 c32_i32_581
  let v648 : Index := Scalar.indexCast v647
  let c0_582 : Index := 0#32
  ![v648.toNat, 0]
def k0_dev46 (d0 : Dev nD) : Nat :=
  let c0_i32_601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_594 : BitVec 32 := 1#32
  let v664 : BitVec 32 := Scalar.addi v2 c1_i32_594
  let c16_i32_595 : BitVec 32 := 16#32
  let v665 : BitVec 32 := Scalar.remsi v664 c16_i32_595
  let c1_i32_600 : BitVec 32 := 1#32
  let v667 : BitVec 32 := Scalar.muli v665 c1_i32_600
  let v668 : BitVec 32 := Scalar.addi c0_i32_601 v667
  v668.toNat
def k0_dev47 (d0 : Dev nD) : Nat :=
  let c0_i32_635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_628 : BitVec 32 := 2#32
  let v703 : BitVec 32 := Scalar.addi v2 c2_i32_628
  let c16_i32_629 : BitVec 32 := 16#32
  let v704 : BitVec 32 := Scalar.remsi v703 c16_i32_629
  let c1_i32_634 : BitVec 32 := 1#32
  let v706 : BitVec 32 := Scalar.muli v704 c1_i32_634
  let v707 : BitVec 32 := Scalar.addi c0_i32_635 v706
  v707.toNat
def k0_dev48 (d0 : Dev nD) : Nat :=
  let c0_i32_669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_662 : BitVec 32 := 3#32
  let v742 : BitVec 32 := Scalar.addi v2 c3_i32_662
  let c16_i32_663 : BitVec 32 := 16#32
  let v743 : BitVec 32 := Scalar.remsi v742 c16_i32_663
  let c1_i32_668 : BitVec 32 := 1#32
  let v745 : BitVec 32 := Scalar.muli v743 c1_i32_668
  let v746 : BitVec 32 := Scalar.addi c0_i32_669 v745
  v746.toNat
def k0_dev49 (d0 : Dev nD) : Nat :=
  let c0_i32_703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_696 : BitVec 32 := 4#32
  let v781 : BitVec 32 := Scalar.addi v2 c4_i32_696
  let c16_i32_697 : BitVec 32 := 16#32
  let v782 : BitVec 32 := Scalar.remsi v781 c16_i32_697
  let c1_i32_702 : BitVec 32 := 1#32
  let v784 : BitVec 32 := Scalar.muli v782 c1_i32_702
  let v785 : BitVec 32 := Scalar.addi c0_i32_703 v784
  v785.toNat
def k0_dev50 (d0 : Dev nD) : Nat :=
  let c0_i32_737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_730 : BitVec 32 := 5#32
  let v820 : BitVec 32 := Scalar.addi v2 c5_i32_730
  let c16_i32_731 : BitVec 32 := 16#32
  let v821 : BitVec 32 := Scalar.remsi v820 c16_i32_731
  let c1_i32_736 : BitVec 32 := 1#32
  let v823 : BitVec 32 := Scalar.muli v821 c1_i32_736
  let v824 : BitVec 32 := Scalar.addi c0_i32_737 v823
  v824.toNat
def k0_dev51 (d0 : Dev nD) : Nat :=
  let c0_i32_771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_764 : BitVec 32 := 6#32
  let v859 : BitVec 32 := Scalar.addi v2 c6_i32_764
  let c16_i32_765 : BitVec 32 := 16#32
  let v860 : BitVec 32 := Scalar.remsi v859 c16_i32_765
  let c1_i32_770 : BitVec 32 := 1#32
  let v862 : BitVec 32 := Scalar.muli v860 c1_i32_770
  let v863 : BitVec 32 := Scalar.addi c0_i32_771 v862
  v863.toNat
def k0_dev52 (d0 : Dev nD) : Nat :=
  let c0_i32_805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_798 : BitVec 32 := 7#32
  let v898 : BitVec 32 := Scalar.addi v2 c7_i32_798
  let c16_i32_799 : BitVec 32 := 16#32
  let v899 : BitVec 32 := Scalar.remsi v898 c16_i32_799
  let c1_i32_804 : BitVec 32 := 1#32
  let v901 : BitVec 32 := Scalar.muli v899 c1_i32_804
  let v902 : BitVec 32 := Scalar.addi c0_i32_805 v901
  v902.toNat
def k0_dev53 (d0 : Dev nD) : Nat :=
  let c0_i32_839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_832 : BitVec 32 := 8#32
  let v937 : BitVec 32 := Scalar.addi v2 c8_i32_832
  let c16_i32_833 : BitVec 32 := 16#32
  let v938 : BitVec 32 := Scalar.remsi v937 c16_i32_833
  let c1_i32_838 : BitVec 32 := 1#32
  let v940 : BitVec 32 := Scalar.muli v938 c1_i32_838
  let v941 : BitVec 32 := Scalar.addi c0_i32_839 v940
  v941.toNat
def k0_dev54 (d0 : Dev nD) : Nat :=
  let c0_i32_873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_866 : BitVec 32 := 9#32
  let v976 : BitVec 32 := Scalar.addi v2 c9_i32_866
  let c16_i32_867 : BitVec 32 := 16#32
  let v977 : BitVec 32 := Scalar.remsi v976 c16_i32_867
  let c1_i32_872 : BitVec 32 := 1#32
  let v979 : BitVec 32 := Scalar.muli v977 c1_i32_872
  let v980 : BitVec 32 := Scalar.addi c0_i32_873 v979
  v980.toNat
def k0_dev55 (d0 : Dev nD) : Nat :=
  let c0_i32_907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_900 : BitVec 32 := 10#32
  let v1015 : BitVec 32 := Scalar.addi v2 c10_i32_900
  let c16_i32_901 : BitVec 32 := 16#32
  let v1016 : BitVec 32 := Scalar.remsi v1015 c16_i32_901
  let c1_i32_906 : BitVec 32 := 1#32
  let v1018 : BitVec 32 := Scalar.muli v1016 c1_i32_906
  let v1019 : BitVec 32 := Scalar.addi c0_i32_907 v1018
  v1019.toNat
def k0_dev56 (d0 : Dev nD) : Nat :=
  let c0_i32_941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_934 : BitVec 32 := 11#32
  let v1054 : BitVec 32 := Scalar.addi v2 c11_i32_934
  let c16_i32_935 : BitVec 32 := 16#32
  let v1055 : BitVec 32 := Scalar.remsi v1054 c16_i32_935
  let c1_i32_940 : BitVec 32 := 1#32
  let v1057 : BitVec 32 := Scalar.muli v1055 c1_i32_940
  let v1058 : BitVec 32 := Scalar.addi c0_i32_941 v1057
  v1058.toNat
def k0_dev57 (d0 : Dev nD) : Nat :=
  let c0_i32_975 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_968 : BitVec 32 := 12#32
  let v1093 : BitVec 32 := Scalar.addi v2 c12_i32_968
  let c16_i32_969 : BitVec 32 := 16#32
  let v1094 : BitVec 32 := Scalar.remsi v1093 c16_i32_969
  let c1_i32_974 : BitVec 32 := 1#32
  let v1096 : BitVec 32 := Scalar.muli v1094 c1_i32_974
  let v1097 : BitVec 32 := Scalar.addi c0_i32_975 v1096
  v1097.toNat
def k0_dev58 (d0 : Dev nD) : Nat :=
  let c0_i32_1009 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1002 : BitVec 32 := 13#32
  let v1132 : BitVec 32 := Scalar.addi v2 c13_i32_1002
  let c16_i32_1003 : BitVec 32 := 16#32
  let v1133 : BitVec 32 := Scalar.remsi v1132 c16_i32_1003
  let c1_i32_1008 : BitVec 32 := 1#32
  let v1135 : BitVec 32 := Scalar.muli v1133 c1_i32_1008
  let v1136 : BitVec 32 := Scalar.addi c0_i32_1009 v1135
  v1136.toNat
def k0_dev59 (d0 : Dev nD) : Nat :=
  let c0_i32_1043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1036 : BitVec 32 := 14#32
  let v1171 : BitVec 32 := Scalar.addi v2 c14_i32_1036
  let c16_i32_1037 : BitVec 32 := 16#32
  let v1172 : BitVec 32 := Scalar.remsi v1171 c16_i32_1037
  let c1_i32_1042 : BitVec 32 := 1#32
  let v1174 : BitVec 32 := Scalar.muli v1172 c1_i32_1042
  let v1175 : BitVec 32 := Scalar.addi c0_i32_1043 v1174
  v1175.toNat
def k0_dev60 (d0 : Dev nD) : Nat :=
  let c0_i32_1077 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1070 : BitVec 32 := 15#32
  let v1210 : BitVec 32 := Scalar.addi v2 c15_i32_1070
  let c16_i32_1071 : BitVec 32 := 16#32
  let v1211 : BitVec 32 := Scalar.remsi v1210 c16_i32_1071
  let c1_i32_1076 : BitVec 32 := 1#32
  let v1213 : BitVec 32 := Scalar.muli v1211 c1_i32_1076
  let v1214 : BitVec 32 := Scalar.addi c0_i32_1077 v1213
  v1214.toNat
def k0_dev61 (d0 : Dev nD) : Nat :=
  let c0_i32_1361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1354 : BitVec 32 := 1#32
  let v1470 : BitVec 32 := Scalar.addi v2 c1_i32_1354
  let c16_i32_1355 : BitVec 32 := 16#32
  let v1471 : BitVec 32 := Scalar.remsi v1470 c16_i32_1355
  let c1_i32_1360 : BitVec 32 := 1#32
  let v1474 : BitVec 32 := Scalar.muli v1471 c1_i32_1360
  let v1475 : BitVec 32 := Scalar.addi c0_i32_1361 v1474
  v1475.toNat
def k0_dev62 (d0 : Dev nD) : Nat :=
  let c0_i32_1371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1364 : BitVec 32 := 2#32
  let v1482 : BitVec 32 := Scalar.addi v2 c2_i32_1364
  let c16_i32_1365 : BitVec 32 := 16#32
  let v1483 : BitVec 32 := Scalar.remsi v1482 c16_i32_1365
  let c1_i32_1370 : BitVec 32 := 1#32
  let v1486 : BitVec 32 := Scalar.muli v1483 c1_i32_1370
  let v1487 : BitVec 32 := Scalar.addi c0_i32_1371 v1486
  v1487.toNat
def k0_dev63 (d0 : Dev nD) : Nat :=
  let c0_i32_1381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1374 : BitVec 32 := 3#32
  let v1494 : BitVec 32 := Scalar.addi v2 c3_i32_1374
  let c16_i32_1375 : BitVec 32 := 16#32
  let v1495 : BitVec 32 := Scalar.remsi v1494 c16_i32_1375
  let c1_i32_1380 : BitVec 32 := 1#32
  let v1498 : BitVec 32 := Scalar.muli v1495 c1_i32_1380
  let v1499 : BitVec 32 := Scalar.addi c0_i32_1381 v1498
  v1499.toNat
def k0_dev64 (d0 : Dev nD) : Nat :=
  let c0_i32_1391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1384 : BitVec 32 := 4#32
  let v1506 : BitVec 32 := Scalar.addi v2 c4_i32_1384
  let c16_i32_1385 : BitVec 32 := 16#32
  let v1507 : BitVec 32 := Scalar.remsi v1506 c16_i32_1385
  let c1_i32_1390 : BitVec 32 := 1#32
  let v1510 : BitVec 32 := Scalar.muli v1507 c1_i32_1390
  let v1511 : BitVec 32 := Scalar.addi c0_i32_1391 v1510
  v1511.toNat
def k0_dev65 (d0 : Dev nD) : Nat :=
  let c0_i32_1401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1394 : BitVec 32 := 5#32
  let v1518 : BitVec 32 := Scalar.addi v2 c5_i32_1394
  let c16_i32_1395 : BitVec 32 := 16#32
  let v1519 : BitVec 32 := Scalar.remsi v1518 c16_i32_1395
  let c1_i32_1400 : BitVec 32 := 1#32
  let v1522 : BitVec 32 := Scalar.muli v1519 c1_i32_1400
  let v1523 : BitVec 32 := Scalar.addi c0_i32_1401 v1522
  v1523.toNat
def k0_dev66 (d0 : Dev nD) : Nat :=
  let c0_i32_1411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1404 : BitVec 32 := 6#32
  let v1530 : BitVec 32 := Scalar.addi v2 c6_i32_1404
  let c16_i32_1405 : BitVec 32 := 16#32
  let v1531 : BitVec 32 := Scalar.remsi v1530 c16_i32_1405
  let c1_i32_1410 : BitVec 32 := 1#32
  let v1534 : BitVec 32 := Scalar.muli v1531 c1_i32_1410
  let v1535 : BitVec 32 := Scalar.addi c0_i32_1411 v1534
  v1535.toNat
def k0_dev67 (d0 : Dev nD) : Nat :=
  let c0_i32_1421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1414 : BitVec 32 := 7#32
  let v1542 : BitVec 32 := Scalar.addi v2 c7_i32_1414
  let c16_i32_1415 : BitVec 32 := 16#32
  let v1543 : BitVec 32 := Scalar.remsi v1542 c16_i32_1415
  let c1_i32_1420 : BitVec 32 := 1#32
  let v1546 : BitVec 32 := Scalar.muli v1543 c1_i32_1420
  let v1547 : BitVec 32 := Scalar.addi c0_i32_1421 v1546
  v1547.toNat
def k0_dev68 (d0 : Dev nD) : Nat :=
  let c0_i32_1431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1424 : BitVec 32 := 8#32
  let v1554 : BitVec 32 := Scalar.addi v2 c8_i32_1424
  let c16_i32_1425 : BitVec 32 := 16#32
  let v1555 : BitVec 32 := Scalar.remsi v1554 c16_i32_1425
  let c1_i32_1430 : BitVec 32 := 1#32
  let v1558 : BitVec 32 := Scalar.muli v1555 c1_i32_1430
  let v1559 : BitVec 32 := Scalar.addi c0_i32_1431 v1558
  v1559.toNat
def k0_dev69 (d0 : Dev nD) : Nat :=
  let c0_i32_1441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1434 : BitVec 32 := 9#32
  let v1566 : BitVec 32 := Scalar.addi v2 c9_i32_1434
  let c16_i32_1435 : BitVec 32 := 16#32
  let v1567 : BitVec 32 := Scalar.remsi v1566 c16_i32_1435
  let c1_i32_1440 : BitVec 32 := 1#32
  let v1570 : BitVec 32 := Scalar.muli v1567 c1_i32_1440
  let v1571 : BitVec 32 := Scalar.addi c0_i32_1441 v1570
  v1571.toNat
def k0_dev70 (d0 : Dev nD) : Nat :=
  let c0_i32_1451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1444 : BitVec 32 := 10#32
  let v1578 : BitVec 32 := Scalar.addi v2 c10_i32_1444
  let c16_i32_1445 : BitVec 32 := 16#32
  let v1579 : BitVec 32 := Scalar.remsi v1578 c16_i32_1445
  let c1_i32_1450 : BitVec 32 := 1#32
  let v1582 : BitVec 32 := Scalar.muli v1579 c1_i32_1450
  let v1583 : BitVec 32 := Scalar.addi c0_i32_1451 v1582
  v1583.toNat
def k0_dev71 (d0 : Dev nD) : Nat :=
  let c0_i32_1461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1454 : BitVec 32 := 11#32
  let v1590 : BitVec 32 := Scalar.addi v2 c11_i32_1454
  let c16_i32_1455 : BitVec 32 := 16#32
  let v1591 : BitVec 32 := Scalar.remsi v1590 c16_i32_1455
  let c1_i32_1460 : BitVec 32 := 1#32
  let v1594 : BitVec 32 := Scalar.muli v1591 c1_i32_1460
  let v1595 : BitVec 32 := Scalar.addi c0_i32_1461 v1594
  v1595.toNat
def k0_dev72 (d0 : Dev nD) : Nat :=
  let c0_i32_1471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1464 : BitVec 32 := 12#32
  let v1602 : BitVec 32 := Scalar.addi v2 c12_i32_1464
  let c16_i32_1465 : BitVec 32 := 16#32
  let v1603 : BitVec 32 := Scalar.remsi v1602 c16_i32_1465
  let c1_i32_1470 : BitVec 32 := 1#32
  let v1606 : BitVec 32 := Scalar.muli v1603 c1_i32_1470
  let v1607 : BitVec 32 := Scalar.addi c0_i32_1471 v1606
  v1607.toNat
def k0_dev73 (d0 : Dev nD) : Nat :=
  let c0_i32_1481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1474 : BitVec 32 := 13#32
  let v1614 : BitVec 32 := Scalar.addi v2 c13_i32_1474
  let c16_i32_1475 : BitVec 32 := 16#32
  let v1615 : BitVec 32 := Scalar.remsi v1614 c16_i32_1475
  let c1_i32_1480 : BitVec 32 := 1#32
  let v1618 : BitVec 32 := Scalar.muli v1615 c1_i32_1480
  let v1619 : BitVec 32 := Scalar.addi c0_i32_1481 v1618
  v1619.toNat
def k0_dev74 (d0 : Dev nD) : Nat :=
  let c0_i32_1491 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1484 : BitVec 32 := 14#32
  let v1626 : BitVec 32 := Scalar.addi v2 c14_i32_1484
  let c16_i32_1485 : BitVec 32 := 16#32
  let v1627 : BitVec 32 := Scalar.remsi v1626 c16_i32_1485
  let c1_i32_1490 : BitVec 32 := 1#32
  let v1630 : BitVec 32 := Scalar.muli v1627 c1_i32_1490
  let v1631 : BitVec 32 := Scalar.addi c0_i32_1491 v1630
  v1631.toNat
def k0_dev75 (d0 : Dev nD) : Nat :=
  let c0_i32_1501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1494 : BitVec 32 := 15#32
  let v1638 : BitVec 32 := Scalar.addi v2 c15_i32_1494
  let c16_i32_1495 : BitVec 32 := 16#32
  let v1639 : BitVec 32 := Scalar.remsi v1638 c16_i32_1495
  let c1_i32_1500 : BitVec 32 := 1#32
  let v1642 : BitVec 32 := Scalar.muli v1639 c1_i32_1500
  let v1643 : BitVec 32 := Scalar.addi c0_i32_1501 v1642
  v1643.toNat
def k0_dev76 (d0 : Dev nD) : Nat :=
  let c0_i32_1540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1533 : BitVec 32 := 1#32
  let v1687 : BitVec 32 := Scalar.addi v2 c1_i32_1533
  let c16_i32_1534 : BitVec 32 := 16#32
  let v1688 : BitVec 32 := Scalar.remsi v1687 c16_i32_1534
  let c1_i32_1539 : BitVec 32 := 1#32
  let v1690 : BitVec 32 := Scalar.muli v1688 c1_i32_1539
  let v1691 : BitVec 32 := Scalar.addi c0_i32_1540 v1690
  v1691.toNat
def k0_dev77 (d0 : Dev nD) : Nat :=
  let c0_i32_1574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1567 : BitVec 32 := 2#32
  let v1726 : BitVec 32 := Scalar.addi v2 c2_i32_1567
  let c16_i32_1568 : BitVec 32 := 16#32
  let v1727 : BitVec 32 := Scalar.remsi v1726 c16_i32_1568
  let c1_i32_1573 : BitVec 32 := 1#32
  let v1729 : BitVec 32 := Scalar.muli v1727 c1_i32_1573
  let v1730 : BitVec 32 := Scalar.addi c0_i32_1574 v1729
  v1730.toNat
def k0_dev78 (d0 : Dev nD) : Nat :=
  let c0_i32_1608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1601 : BitVec 32 := 3#32
  let v1765 : BitVec 32 := Scalar.addi v2 c3_i32_1601
  let c16_i32_1602 : BitVec 32 := 16#32
  let v1766 : BitVec 32 := Scalar.remsi v1765 c16_i32_1602
  let c1_i32_1607 : BitVec 32 := 1#32
  let v1768 : BitVec 32 := Scalar.muli v1766 c1_i32_1607
  let v1769 : BitVec 32 := Scalar.addi c0_i32_1608 v1768
  v1769.toNat
def k0_dev79 (d0 : Dev nD) : Nat :=
  let c0_i32_1642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1635 : BitVec 32 := 4#32
  let v1804 : BitVec 32 := Scalar.addi v2 c4_i32_1635
  let c16_i32_1636 : BitVec 32 := 16#32
  let v1805 : BitVec 32 := Scalar.remsi v1804 c16_i32_1636
  let c1_i32_1641 : BitVec 32 := 1#32
  let v1807 : BitVec 32 := Scalar.muli v1805 c1_i32_1641
  let v1808 : BitVec 32 := Scalar.addi c0_i32_1642 v1807
  v1808.toNat
def k0_dev80 (d0 : Dev nD) : Nat :=
  let c0_i32_1676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1669 : BitVec 32 := 5#32
  let v1843 : BitVec 32 := Scalar.addi v2 c5_i32_1669
  let c16_i32_1670 : BitVec 32 := 16#32
  let v1844 : BitVec 32 := Scalar.remsi v1843 c16_i32_1670
  let c1_i32_1675 : BitVec 32 := 1#32
  let v1846 : BitVec 32 := Scalar.muli v1844 c1_i32_1675
  let v1847 : BitVec 32 := Scalar.addi c0_i32_1676 v1846
  v1847.toNat
def k0_dev81 (d0 : Dev nD) : Nat :=
  let c0_i32_1710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1703 : BitVec 32 := 6#32
  let v1882 : BitVec 32 := Scalar.addi v2 c6_i32_1703
  let c16_i32_1704 : BitVec 32 := 16#32
  let v1883 : BitVec 32 := Scalar.remsi v1882 c16_i32_1704
  let c1_i32_1709 : BitVec 32 := 1#32
  let v1885 : BitVec 32 := Scalar.muli v1883 c1_i32_1709
  let v1886 : BitVec 32 := Scalar.addi c0_i32_1710 v1885
  v1886.toNat
def k0_dev82 (d0 : Dev nD) : Nat :=
  let c0_i32_1744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1737 : BitVec 32 := 7#32
  let v1921 : BitVec 32 := Scalar.addi v2 c7_i32_1737
  let c16_i32_1738 : BitVec 32 := 16#32
  let v1922 : BitVec 32 := Scalar.remsi v1921 c16_i32_1738
  let c1_i32_1743 : BitVec 32 := 1#32
  let v1924 : BitVec 32 := Scalar.muli v1922 c1_i32_1743
  let v1925 : BitVec 32 := Scalar.addi c0_i32_1744 v1924
  v1925.toNat
def k0_dev83 (d0 : Dev nD) : Nat :=
  let c0_i32_1778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1771 : BitVec 32 := 8#32
  let v1960 : BitVec 32 := Scalar.addi v2 c8_i32_1771
  let c16_i32_1772 : BitVec 32 := 16#32
  let v1961 : BitVec 32 := Scalar.remsi v1960 c16_i32_1772
  let c1_i32_1777 : BitVec 32 := 1#32
  let v1963 : BitVec 32 := Scalar.muli v1961 c1_i32_1777
  let v1964 : BitVec 32 := Scalar.addi c0_i32_1778 v1963
  v1964.toNat
def k0_dev84 (d0 : Dev nD) : Nat :=
  let c0_i32_1812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1805 : BitVec 32 := 9#32
  let v1999 : BitVec 32 := Scalar.addi v2 c9_i32_1805
  let c16_i32_1806 : BitVec 32 := 16#32
  let v2000 : BitVec 32 := Scalar.remsi v1999 c16_i32_1806
  let c1_i32_1811 : BitVec 32 := 1#32
  let v2002 : BitVec 32 := Scalar.muli v2000 c1_i32_1811
  let v2003 : BitVec 32 := Scalar.addi c0_i32_1812 v2002
  v2003.toNat
def k0_dev85 (d0 : Dev nD) : Nat :=
  let c0_i32_1846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1839 : BitVec 32 := 10#32
  let v2038 : BitVec 32 := Scalar.addi v2 c10_i32_1839
  let c16_i32_1840 : BitVec 32 := 16#32
  let v2039 : BitVec 32 := Scalar.remsi v2038 c16_i32_1840
  let c1_i32_1845 : BitVec 32 := 1#32
  let v2041 : BitVec 32 := Scalar.muli v2039 c1_i32_1845
  let v2042 : BitVec 32 := Scalar.addi c0_i32_1846 v2041
  v2042.toNat
def k0_dev86 (d0 : Dev nD) : Nat :=
  let c0_i32_1880 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1873 : BitVec 32 := 11#32
  let v2077 : BitVec 32 := Scalar.addi v2 c11_i32_1873
  let c16_i32_1874 : BitVec 32 := 16#32
  let v2078 : BitVec 32 := Scalar.remsi v2077 c16_i32_1874
  let c1_i32_1879 : BitVec 32 := 1#32
  let v2080 : BitVec 32 := Scalar.muli v2078 c1_i32_1879
  let v2081 : BitVec 32 := Scalar.addi c0_i32_1880 v2080
  v2081.toNat
def k0_dev87 (d0 : Dev nD) : Nat :=
  let c0_i32_1914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1907 : BitVec 32 := 12#32
  let v2116 : BitVec 32 := Scalar.addi v2 c12_i32_1907
  let c16_i32_1908 : BitVec 32 := 16#32
  let v2117 : BitVec 32 := Scalar.remsi v2116 c16_i32_1908
  let c1_i32_1913 : BitVec 32 := 1#32
  let v2119 : BitVec 32 := Scalar.muli v2117 c1_i32_1913
  let v2120 : BitVec 32 := Scalar.addi c0_i32_1914 v2119
  v2120.toNat
def k0_dev88 (d0 : Dev nD) : Nat :=
  let c0_i32_1948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1941 : BitVec 32 := 13#32
  let v2155 : BitVec 32 := Scalar.addi v2 c13_i32_1941
  let c16_i32_1942 : BitVec 32 := 16#32
  let v2156 : BitVec 32 := Scalar.remsi v2155 c16_i32_1942
  let c1_i32_1947 : BitVec 32 := 1#32
  let v2158 : BitVec 32 := Scalar.muli v2156 c1_i32_1947
  let v2159 : BitVec 32 := Scalar.addi c0_i32_1948 v2158
  v2159.toNat
def k0_dev89 (d0 : Dev nD) : Nat :=
  let c0_i32_1982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1975 : BitVec 32 := 14#32
  let v2194 : BitVec 32 := Scalar.addi v2 c14_i32_1975
  let c16_i32_1976 : BitVec 32 := 16#32
  let v2195 : BitVec 32 := Scalar.remsi v2194 c16_i32_1976
  let c1_i32_1981 : BitVec 32 := 1#32
  let v2197 : BitVec 32 := Scalar.muli v2195 c1_i32_1981
  let v2198 : BitVec 32 := Scalar.addi c0_i32_1982 v2197
  v2198.toNat
def k0_dev90 (d0 : Dev nD) : Nat :=
  let c0_i32_2016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2009 : BitVec 32 := 15#32
  let v2233 : BitVec 32 := Scalar.addi v2 c15_i32_2009
  let c16_i32_2010 : BitVec 32 := 16#32
  let v2234 : BitVec 32 := Scalar.remsi v2233 c16_i32_2010
  let c1_i32_2015 : BitVec 32 := 1#32
  let v2236 : BitVec 32 := Scalar.muli v2234 c1_i32_2015
  let v2237 : BitVec 32 := Scalar.addi c0_i32_2016 v2236
  v2237.toNat
def k0_dev91 (d0 : Dev nD) : Nat :=
  let c0_i32_2300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2293 : BitVec 32 := 1#32
  let v2493 : BitVec 32 := Scalar.addi v2 c1_i32_2293
  let c16_i32_2294 : BitVec 32 := 16#32
  let v2494 : BitVec 32 := Scalar.remsi v2493 c16_i32_2294
  let c1_i32_2299 : BitVec 32 := 1#32
  let v2497 : BitVec 32 := Scalar.muli v2494 c1_i32_2299
  let v2498 : BitVec 32 := Scalar.addi c0_i32_2300 v2497
  v2498.toNat
def k0_dev92 (d0 : Dev nD) : Nat :=
  let c0_i32_2310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2303 : BitVec 32 := 2#32
  let v2505 : BitVec 32 := Scalar.addi v2 c2_i32_2303
  let c16_i32_2304 : BitVec 32 := 16#32
  let v2506 : BitVec 32 := Scalar.remsi v2505 c16_i32_2304
  let c1_i32_2309 : BitVec 32 := 1#32
  let v2509 : BitVec 32 := Scalar.muli v2506 c1_i32_2309
  let v2510 : BitVec 32 := Scalar.addi c0_i32_2310 v2509
  v2510.toNat
def k0_dev93 (d0 : Dev nD) : Nat :=
  let c0_i32_2320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2313 : BitVec 32 := 3#32
  let v2517 : BitVec 32 := Scalar.addi v2 c3_i32_2313
  let c16_i32_2314 : BitVec 32 := 16#32
  let v2518 : BitVec 32 := Scalar.remsi v2517 c16_i32_2314
  let c1_i32_2319 : BitVec 32 := 1#32
  let v2521 : BitVec 32 := Scalar.muli v2518 c1_i32_2319
  let v2522 : BitVec 32 := Scalar.addi c0_i32_2320 v2521
  v2522.toNat
def k0_dev94 (d0 : Dev nD) : Nat :=
  let c0_i32_2330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2323 : BitVec 32 := 4#32
  let v2529 : BitVec 32 := Scalar.addi v2 c4_i32_2323
  let c16_i32_2324 : BitVec 32 := 16#32
  let v2530 : BitVec 32 := Scalar.remsi v2529 c16_i32_2324
  let c1_i32_2329 : BitVec 32 := 1#32
  let v2533 : BitVec 32 := Scalar.muli v2530 c1_i32_2329
  let v2534 : BitVec 32 := Scalar.addi c0_i32_2330 v2533
  v2534.toNat
def k0_dev95 (d0 : Dev nD) : Nat :=
  let c0_i32_2340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2333 : BitVec 32 := 5#32
  let v2541 : BitVec 32 := Scalar.addi v2 c5_i32_2333
  let c16_i32_2334 : BitVec 32 := 16#32
  let v2542 : BitVec 32 := Scalar.remsi v2541 c16_i32_2334
  let c1_i32_2339 : BitVec 32 := 1#32
  let v2545 : BitVec 32 := Scalar.muli v2542 c1_i32_2339
  let v2546 : BitVec 32 := Scalar.addi c0_i32_2340 v2545
  v2546.toNat
def k0_dev96 (d0 : Dev nD) : Nat :=
  let c0_i32_2350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2343 : BitVec 32 := 6#32
  let v2553 : BitVec 32 := Scalar.addi v2 c6_i32_2343
  let c16_i32_2344 : BitVec 32 := 16#32
  let v2554 : BitVec 32 := Scalar.remsi v2553 c16_i32_2344
  let c1_i32_2349 : BitVec 32 := 1#32
  let v2557 : BitVec 32 := Scalar.muli v2554 c1_i32_2349
  let v2558 : BitVec 32 := Scalar.addi c0_i32_2350 v2557
  v2558.toNat
def k0_dev97 (d0 : Dev nD) : Nat :=
  let c0_i32_2360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2353 : BitVec 32 := 7#32
  let v2565 : BitVec 32 := Scalar.addi v2 c7_i32_2353
  let c16_i32_2354 : BitVec 32 := 16#32
  let v2566 : BitVec 32 := Scalar.remsi v2565 c16_i32_2354
  let c1_i32_2359 : BitVec 32 := 1#32
  let v2569 : BitVec 32 := Scalar.muli v2566 c1_i32_2359
  let v2570 : BitVec 32 := Scalar.addi c0_i32_2360 v2569
  v2570.toNat
def k0_dev98 (d0 : Dev nD) : Nat :=
  let c0_i32_2370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2363 : BitVec 32 := 8#32
  let v2577 : BitVec 32 := Scalar.addi v2 c8_i32_2363
  let c16_i32_2364 : BitVec 32 := 16#32
  let v2578 : BitVec 32 := Scalar.remsi v2577 c16_i32_2364
  let c1_i32_2369 : BitVec 32 := 1#32
  let v2581 : BitVec 32 := Scalar.muli v2578 c1_i32_2369
  let v2582 : BitVec 32 := Scalar.addi c0_i32_2370 v2581
  v2582.toNat
def k0_dev99 (d0 : Dev nD) : Nat :=
  let c0_i32_2380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2373 : BitVec 32 := 9#32
  let v2589 : BitVec 32 := Scalar.addi v2 c9_i32_2373
  let c16_i32_2374 : BitVec 32 := 16#32
  let v2590 : BitVec 32 := Scalar.remsi v2589 c16_i32_2374
  let c1_i32_2379 : BitVec 32 := 1#32
  let v2593 : BitVec 32 := Scalar.muli v2590 c1_i32_2379
  let v2594 : BitVec 32 := Scalar.addi c0_i32_2380 v2593
  v2594.toNat
def k0_dev100 (d0 : Dev nD) : Nat :=
  let c0_i32_2390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2383 : BitVec 32 := 10#32
  let v2601 : BitVec 32 := Scalar.addi v2 c10_i32_2383
  let c16_i32_2384 : BitVec 32 := 16#32
  let v2602 : BitVec 32 := Scalar.remsi v2601 c16_i32_2384
  let c1_i32_2389 : BitVec 32 := 1#32
  let v2605 : BitVec 32 := Scalar.muli v2602 c1_i32_2389
  let v2606 : BitVec 32 := Scalar.addi c0_i32_2390 v2605
  v2606.toNat
def k0_dev101 (d0 : Dev nD) : Nat :=
  let c0_i32_2400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2393 : BitVec 32 := 11#32
  let v2613 : BitVec 32 := Scalar.addi v2 c11_i32_2393
  let c16_i32_2394 : BitVec 32 := 16#32
  let v2614 : BitVec 32 := Scalar.remsi v2613 c16_i32_2394
  let c1_i32_2399 : BitVec 32 := 1#32
  let v2617 : BitVec 32 := Scalar.muli v2614 c1_i32_2399
  let v2618 : BitVec 32 := Scalar.addi c0_i32_2400 v2617
  v2618.toNat
def k0_dev102 (d0 : Dev nD) : Nat :=
  let c0_i32_2410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2403 : BitVec 32 := 12#32
  let v2625 : BitVec 32 := Scalar.addi v2 c12_i32_2403
  let c16_i32_2404 : BitVec 32 := 16#32
  let v2626 : BitVec 32 := Scalar.remsi v2625 c16_i32_2404
  let c1_i32_2409 : BitVec 32 := 1#32
  let v2629 : BitVec 32 := Scalar.muli v2626 c1_i32_2409
  let v2630 : BitVec 32 := Scalar.addi c0_i32_2410 v2629
  v2630.toNat
def k0_dev103 (d0 : Dev nD) : Nat :=
  let c0_i32_2420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2413 : BitVec 32 := 13#32
  let v2637 : BitVec 32 := Scalar.addi v2 c13_i32_2413
  let c16_i32_2414 : BitVec 32 := 16#32
  let v2638 : BitVec 32 := Scalar.remsi v2637 c16_i32_2414
  let c1_i32_2419 : BitVec 32 := 1#32
  let v2641 : BitVec 32 := Scalar.muli v2638 c1_i32_2419
  let v2642 : BitVec 32 := Scalar.addi c0_i32_2420 v2641
  v2642.toNat
def k0_dev104 (d0 : Dev nD) : Nat :=
  let c0_i32_2430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2423 : BitVec 32 := 14#32
  let v2649 : BitVec 32 := Scalar.addi v2 c14_i32_2423
  let c16_i32_2424 : BitVec 32 := 16#32
  let v2650 : BitVec 32 := Scalar.remsi v2649 c16_i32_2424
  let c1_i32_2429 : BitVec 32 := 1#32
  let v2653 : BitVec 32 := Scalar.muli v2650 c1_i32_2429
  let v2654 : BitVec 32 := Scalar.addi c0_i32_2430 v2653
  v2654.toNat
def k0_dev105 (d0 : Dev nD) : Nat :=
  let c0_i32_2440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2433 : BitVec 32 := 15#32
  let v2661 : BitVec 32 := Scalar.addi v2 c15_i32_2433
  let c16_i32_2434 : BitVec 32 := 16#32
  let v2662 : BitVec 32 := Scalar.remsi v2661 c16_i32_2434
  let c1_i32_2439 : BitVec 32 := 1#32
  let v2665 : BitVec 32 := Scalar.muli v2662 c1_i32_2439
  let v2666 : BitVec 32 := Scalar.addi c0_i32_2440 v2665
  v2666.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_2446 : BitVec 32 := 32#32
  let v2678 : BitVec 32 := Scalar.muli v2 c32_i32_2446
  let v2679 : Index := Scalar.indexCast v2678
  let c0_2447 : Index := 0#32
  ![v2679.toNat, 0]
def k0_off6 (d0 : Dev nD) (c1_i32_2448 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2681 : BitVec 32 := Scalar.addi v2 c1_i32_2448
  let c16_i32_2449 : BitVec 32 := 16#32
  let v2682 : BitVec 32 := Scalar.remsi v2681 c16_i32_2449
  let c32_i32_2468 : BitVec 32 := 32#32
  let v2700 : BitVec 32 := Scalar.muli v2682 c32_i32_2468
  let v2701 : Index := Scalar.indexCast v2700
  let c0_2469 : Index := 0#32
  ![v2701.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x4096 : Shape := ⟨2, ![512, 4096]⟩
abbrev S4096x512 : Shape := ⟨2, ![4096, 512]⟩
abbrev S512x512 : Shape := ⟨2, ![512, 512]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096x512, .f32⟩
  | .hbm, ⟨2, _⟩ => ⟨S512x4096, .f32⟩
  | .hbm, ⟨3, _⟩ => ⟨S4096x512, .f32⟩
  | .hbm, ⟨4, _⟩ => ⟨S512x4096, .f32⟩
  | .hbm, ⟨5, _⟩ => ⟨S4096x512, .f32⟩
  | .hbm, ⟨6, _⟩ => ⟨S512x4096, .f32⟩
  | .hbm, ⟨7, _⟩ => ⟨S512x512, .f32⟩
  | .hbm, ⟨8, _⟩ => ⟨S_, .f32⟩
  | .hbm, ⟨9, _⟩ => ⟨S512x512, .f32⟩
  | .hbm, ⟨10, _⟩ => ⟨S512x512, .f32⟩
  | .hbm, ⟨11, _⟩ => ⟨S512x4096, .f32⟩
  | .hbm, ⟨12, _⟩ => ⟨S512x512, .f32⟩
  | .hbm, ⟨13, _⟩ => ⟨S_, .f32⟩
  | .hbm, ⟨14, _⟩ => ⟨S512x512, .f32⟩
  | .hbm, ⟨15, _⟩ => ⟨S512x512, .f32⟩
  | .hbm, ⟨16, _⟩ => ⟨S512x4096, .f32⟩
  | .hbm, ⟨17, _⟩ => ⟨S512x512, .f32⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Loop.lean ====
/-
  The kernel's body with its runs over the peers written as loops.

  The printed body unrolls every run over the fifteen peers: one line per peer, in the order of the displacement from the issuing device. Here each such run is ONE loop over the list of the fifteen
  displacements, `peers`, and the printed body is that program (`body_eq`). Every loop body is then proved once, at a symbolic displacement.
-/
module

public import proofs.«01_k».proof.Proof.Gen.KernelIdeal.Skeleton

@[expose] public section

noncomputable section

namespace Cert.Mlp

open Cert.KernelIdeal Cert.KernelIdeal.Gen Idealize.ShloMosaic Idealize.SL.Sem

variable {F : FTy → Type} [FloatOps F]

/-- The programs of a device's TensorCore. -/
abbrev TcProg (F : FTy → Type) [FloatOps F] (α : Type) : Type 1 := Prog (TpuEff nD τ sig (Elt F) Λ₀ .tc) α

/-- The fifteen displacements a device reaches its peers by, in the order the kernel takes them. -/
def peers : List (Fin 16) := [1, 2, 3, 4, 5, 6, 7, 8, 9, 10, 11, 12, 13, 14, 15]

/-- Run `f` at each member of a list in turn, threading a state. -/
def over {σ : Type} (f : Fin 16 → σ → TcProg F σ) : List (Fin 16) → σ → TcProg F σ
  | [], s => .ret s
  | j :: l, s => (f j s).bind (over f l)

/-! ## The addresses of a peer -/

/-- The device `w` further along the mesh, as the kernel computes it. -/
def devW (d0 : Dev nD) (w : BitVec 32) : ℕ :=
  (Scalar.addi 0#32 (Scalar.muli (Scalar.remsi (Scalar.addi (Scalar.remsi (Scalar.divsi (Dev.word d0) 1#32) 16#32) w) 16#32) 1#32)).toNat

theorem devW_eq : ∀ (c : Dev nD) (j : Fin 16), devW c (BitVec.ofNat 32 j.val) = (c.val + j.val) % 16 := by decide +kernel
theorem devW_lt (c : Dev nD) (j : Fin 16) : devW c (BitVec.ofNat 32 j.val) < nD := by rw [devW_eq]; exact Nat.mod_lt _ (by decide)

theorem off1_eq : ∀ (c : Dev nD) (j : Fin 16), k0_off1 c (BitVec.ofNat 32 j.val) = ![32 * ((c.val + j.val) % 16), 0] := by decide +kernel
theorem off4_eq : ∀ (c : Dev nD) (j : Fin 16), k0_off4 c (BitVec.ofNat 32 j.val) = ![32 * ((c.val + j.val) % 16), 0] := by decide +kernel
theorem off6_eq : ∀ (c : Dev nD) (j : Fin 16), k0_off6 c (BitVec.ofNat 32 j.val) = ![32 * ((c.val + j.val) % 16), 0] := by decide +kernel

theorem off1_inb : ∀ (c : Dev nD) (j : Fin 16), ∀ a, (k0_off1 c (BitVec.ofNat 32 j.val)) a + S32x512.size a ≤ S512x512.size a := by decide +kernel
theorem off1_words : ∀ (c : Dev nD) (j : Fin 16),
    (Rect.unit (s := S512x512) (k0_off1 c (BitVec.ofNat 32 j.val)) S32x512.size (off1_inb c j)).WholeWords (EltTy.packing .bf16) := by decide +kernel
theorem off4_inb : ∀ (c : Dev nD) (j : Fin 16), ∀ a, (k0_off4 c (BitVec.ofNat 32 j.val)) a + S32x512.size a ≤ S512x512.size a := by decide +kernel
theorem off4_packed : ∀ (c : Dev nD) (j : Fin 16),
    (Rect.unit (s := S512x512) (k0_off4 c (BitVec.ofNat 32 j.val)) S32x512.size (off4_inb c j)).PackedRows (EltTy.packing .bf16) := by decide +kernel
theorem off6_inb : ∀ (c : Dev nD) (j : Fin 16), ∀ a, (k0_off6 c (BitVec.ofNat 32 j.val)) a + S32x256.size a ≤ S512x256.size a := by decide +kernel
theorem slot_inb : ∀ (j : Fin 16), ∀ a, (![j.val, 0, 0] : Fin 3 → ℕ) a + S1x32x512.size a ≤ S16x32x512.size a := by decide +kernel
theorem slot_words : ∀ (j : Fin 16),
    (Rect.unit (s := S16x32x512) ![j.val, 0, 0] S1x32x512.size (slot_inb j)).WholeWords (EltTy.packing .bf16) := by decide +kernel
theorem sem_inb : ∀ (j : Fin 16), ∀ a, (![j.val] : Fin 1 → ℕ) a + S1.size a ≤ S16.size a := by decide +kernel

/-- Semaphore `j` of an array of sixteen. -/
def semAt (A : DmaSems sig S16) (j : Fin 16) : DmaSem sig :=
  ((A.slice (Rect.unit (s := S16) ![j.val] S1.size (sem_inb j))).squeeze S_ squeezes_S1_S_).sem

/-! ## The buffers the loops address -/

/-- The rows of the device at displacement `j`, of a 512×512 buffer. -/
abbrev rowsTo (M : Memref sig .tc .vmem S512x512 .bf16) (d0 : Dev nD) (j : Fin 16) : Memref sig .tc .vmem S32x512 .bf16 :=
  M.slice (Rect.unit (s := S512x512) (k0_off1 d0 (BitVec.ofNat 32 j.val)) S32x512.size (off1_inb d0 j)) (fun _ => rfl)
/-- The device's own rows, of a 512×512 buffer. -/
abbrev rowsOwn (M : Memref sig .tc .vmem S512x512 .bf16) (d0 : Dev nD) : Memref sig .tc .vmem S32x512 .bf16 :=
  M.slice (Rect.unit (s := S512x512) (k0_off3 d0) S32x512.size (k0_off3_inb d0)) (fun _ => rfl)
/-- Slot `j` of the receive buffer. -/
abbrev slotOf (M : Memref sig .tc .vmem S16x32x512 .bf16) (j : Fin 16) : Memref sig .tc .vmem S32x512 .bf16 :=
  (M.slice (Rect.unit (s := S16x32x512) ![j.val, 0, 0] S1x32x512.size (slot_inb j)) (fun _ => rfl)).squeeze S32x512 squeezes_S1x32x512_S32x512

/-! ## The values -/

/-- One term of the sum over the peers: what arrived in a slot, widened, added. -/
def addSlot (a : FVec F S32x512 .f32) (v : Vec F S1x32x512 .bf16) : FVec F S32x512 .f32 :=
  addf a (extf .f32 (shapeCast S32x512 v shapeCasts_S1x32x512_S32x512) bitsLt_bf16_f32)
/-- The rectifier. -/
def relu (a : FVec F S32x512 .f32) : FVec F S32x512 .f32 := maximumf a (broadcast S32x512 (Scalar.ofBits .f32 0x00000000#32))
/-- A block narrowed as it is stored. -/
def narrow (a : FVec F S32x512 .f32) : FVec F S32x512 .bf16 := shapeCast S32x512 (truncf .bf16 a bitsLt_bf16_f32) shapeCasts_S32x512_S32x512

section Program

variable (arg0 : Memref sig .tc .vmem S512x256 .f32) (harg0 : arg0.IsWhole) (arg1 : Memref sig .tc .vmem S256x512 .f32) (harg1 : arg1.IsWhole)
  (arg2 : Memref sig .tc .vmem S512x256 .f32) (harg2 : arg2.IsWhole) (arg3 : Memref sig .tc .vmem S256x512 .f32) (harg3 : arg3.IsWhole)
  (arg4 : Memref sig .tc .vmem S512x256 .f32) (harg4 : arg4.IsWhole) (arg5 : Memref sig .tc .vmem S256x512 .f32) (harg5 : arg5.IsWhole)
  (arg6 : Memref sig .tc .vmem S512x256 .f32) (harg6 : arg6.IsWhole) (arg7 : Memref sig .tc .vmem S512x256 .f32) (harg7 : arg7.IsWhole)
  (arg8 : Memref sig .tc .vmem S512x512 .bf16) (harg8 : arg8.IsWhole) (arg9 : Memref sig .tc .vmem S16x32x512 .bf16) (harg9 : arg9.IsWhole)
  (arg10 : Memref sig .tc .vmem S512x512 .bf16) (harg10 : arg10.IsWhole)
  (arg11 : DmaSems sig S16) (arg12 : DmaSems sig S16) (arg13 : DmaSems sig S16) (arg14 : DmaSems sig S16) (d0 : Dev nD)

/-- The loop at entry: a signal to every peer. -/
def entryStep (j : Fin 16) (_ : Unit) : TcProg F Unit :=
  .op (.semSignal (⟨devW d0 (BitVec.ofNat 32 j.val), devW_lt d0 j⟩, .tc) (SemArray.scalar (sig.barrier 0 rfl) : Sems sig S_).sem (BitVec.toInt 1#32)) fun _ => .ret ()

/-- Send a peer its rows of the partial products. -/
def sendA (j : Fin 16) : TcProg F Unit :=
  .op (.enqueueDma (rowsTo arg8 d0 j) (.remote (Dev.tc ⟨devW d0 (BitVec.ofNat 32 j.val), devW_lt d0 j⟩) (slotOf arg9 (-j)) (.dma (semAt arg11 j))) (.dma (semAt arg12 (-j)))
    (harg8.wordExact_slice rfl _ (off1_words d0 j)) ((harg9.wordExact_slice rfl _ (slot_words (-j))).reshape _ _) ⟨⟨rfl, Or.inl rfl⟩, trivial⟩) fun _ => .ret ()
/-- Send a peer this device's rows of the hidden layer. -/
def sendB (j : Fin 16) : TcProg F Unit :=
  .op (.enqueueDma (rowsOwn arg10 d0) (.remote (Dev.tc ⟨devW d0 (BitVec.ofNat 32 j.val), devW_lt d0 j⟩) (rowsOwn arg10 d0) (.dma (semAt arg13 j))) (.dma (semAt arg14 (-j)))
    (harg10.wordExact_slice rfl _ (k0_off3_wordsbf16 d0)) (harg10.wordExact_slice rfl _ (k0_off3_wordsbf16 d0)) ⟨⟨rfl, Or.inl rfl⟩, trivial⟩) fun _ => .ret ()
/-- Wait for the peer's rows of the partial products and add them to the sum. -/
def recvA (j : Fin 16) (a : FVec F S32x512 .f32) : TcProg F (FVec F S32x512 .f32) :=
  .op (.waitDma2 (semAt arg12 j) (slotOf arg9 j) (slotOf arg9 j) ((harg9.wordExact_slice rfl _ (slot_words j)).reshape _ _) ((harg9.wordExact_slice rfl _ (slot_words j)).reshape _ _)) fun _ =>
  .op (.load arg9 (Rect.unit (s := S16x32x512) ![j.val, 0, 0] S1x32x512.size (slot_inb j)).toLoadRect (View.loadsAt_vmem h_S1x32x512)) fun v => .ret (addSlot a v)
/-- Wait until the send of this device's hidden rows is done. -/
def doneB (j : Fin 16) : TcProg F Unit :=
  .op (.waitDma2 (semAt arg13 j) (rowsOwn arg10 d0) (rowsOwn arg10 d0) (harg10.wordExact_slice rfl _ (k0_off3_wordsbf16 d0)) (harg10.wordExact_slice rfl _ (k0_off3_wordsbf16 d0))) fun _ => .ret ()
/-- Wait for the peer's rows of the hidden layer and read them, then wait until the rows this device sent that peer may be written again. -/
def recvB (j : Fin 16) : TcProg F (Vec F S32x512 .bf16) :=
  .op (.waitDma2 (semAt arg14 j) (rowsTo arg10 d0 j) (rowsTo arg10 d0 j) (harg10.wordExact_slice rfl _ (off1_words d0 j)) (harg10.wordExact_slice rfl _ (off1_words d0 j))) fun _ =>
  .op (.load arg10 (Rect.unit (s := S512x512) (k0_off4 d0 (BitVec.ofNat 32 j.val)) S32x512.size (off4_inb d0 j)).toLoadRect (View.loadsAt_vmem h_S32x512)) fun v =>
  .op (.waitDma2 (semAt arg11 j) (slotOf arg9 (-j)) (rowsTo arg8 d0 j) ((harg9.wordExact_slice rfl _ (slot_words (-j))).reshape _ _) (harg8.wordExact_slice rfl _ (off1_words d0 j))) fun _ => .ret v
/-- The next partial products of the peer's rows, put in place and sent to the peer. -/
def nextA (wo : FVec F S512x256 .bf16) (wi : FVec F S256x512 .bf16) (j : Fin 16) (_ : Unit) : TcProg F Unit :=
  (recvB arg8 harg8 arg9 harg9 arg10 harg10 arg11 arg14 d0 j).bind fun v =>
  .op (.load arg8 (Rect.unit (s := S512x512) (k0_off4 d0 (BitVec.ofNat 32 j.val)) S32x512.size (off4_inb d0 j)).toLoadRect (View.loadsAt_vmem h_S32x512)) fun _ =>
  .op (.store arg8 (Rect.unit (s := S512x512) (k0_off4 d0 (BitVec.ofNat 32 j.val)) S32x512.size (off4_inb d0 j)) (k0_pay13 wo wi v) Finset.univ
    (View.stores_vmem h_S32x512 (harg8.storeExact_slice rfl _ (off4_packed d0 j)) (fun _ => rfl)) (.inl rfl)) fun _ =>
  sendA arg8 harg8 arg9 harg9 arg11 arg12 d0 j
/-- The peer's rows of the result. -/
def lastOut (wo : FVec F S512x256 .bf16) (j : Fin 16) (_ : Unit) : TcProg F Unit :=
  (recvB arg8 harg8 arg9 harg9 arg10 harg10 arg11 arg14 d0 j).bind fun v =>
  .op (.load arg7 (Rect.unit (s := S512x256) (k0_off6 d0 (BitVec.ofNat 32 j.val)) S32x256.size (off6_inb d0 j)).toLoadRect (View.loadsAt_vmem h_S32x256)) fun _ =>
  .op (.store arg7 (Rect.unit (s := S512x256) (k0_off6 d0 (BitVec.ofNat 32 j.val)) S32x256.size (off6_inb d0 j)) (k0_pay78 wo v) Finset.univ
    (View.stores_vmem_bits_univ h_S32x256 rfl) (.inl rfl)) fun _ => .ret ()

/-- Put the rectified sum in place as this device's rows of the hidden layer. -/
def putH (a : FVec F S32x512 .f32) : TcProg F Unit :=
  .op (.load arg10 (Rect.unit (s := S512x512) (k0_off2 d0) S32x512.size (k0_off2_inb d0)).toLoadRect (View.loadsAt_vmem h_S32x512)) fun _ =>
  .op (.store arg10 (Rect.unit (s := S512x512) (k0_off2 d0) S32x512.size (k0_off2_inb d0)) (narrow (relu a)) Finset.univ
    (View.stores_vmem h_S32x512 (harg10.storeExact_slice rfl _ (k0_off2_packedbf16 d0)) (fun _ => rfl)) (.inl rfl)) fun _ => .ret ()

/-- The first two stages: every device has entered; the first partial products are in place, sent, and this device's own rows of them read. -/
def opening : TcProg F (FVec F S32x512 .f32) :=
  (over (entryStep d0) peers ()).bind fun _ =>
  .op (.semWait (SemArray.scalar (sig.barrier 0 rfl) : Sems sig S_).sem (BitVec.toInt 15#32)) fun _ =>
  .op (.load arg0 (Rect.unit (s := S512x256) ![0, 0] S512x256.size inb_S512x256_S512x256_0_0).toLoadRect (View.loadsAt_vmem h_S512x256)) fun v64 =>
  .op (.load arg1 (Rect.unit (s := S256x512) ![0, 0] S256x512.size inb_S256x512_S256x512_0_0).toLoadRect (View.loadsAt_vmem h_S256x512)) fun v67 =>
  .op (.load arg8 (Rect.unit (s := S512x512) ![0, 0] S512x512.size inb_S512x512_S512x512_0_0).toLoadRect (View.loadsAt_vmem h_S512x512)) fun _ =>
  .op (.store arg8 (Rect.unit (s := S512x512) ![0, 0] S512x512.size inb_S512x512_S512x512_0_0) (k0_pay1 v64 v67) Finset.univ
    (View.stores_vmem h_S512x512 (harg8.storeExact_slice rfl _ packedbf16_S512x512_S512x512_0_0) (fun _ => rfl)) (.inl rfl)) fun _ =>
  (over (fun j _ => sendA arg8 harg8 arg9 harg9 arg11 arg12 d0 j) peers ()).bind fun _ =>
  .op (.load arg8 (Rect.unit (s := S512x512) (k0_off2 d0) S32x512.size (k0_off2_inb d0)).toLoadRect (View.loadsAt_vmem h_S32x512)) fun v =>
  .ret (extf .f32 (v : Vec F S32x512 .bf16) bitsLt_bf16_f32)

/-- Gather one hidden layer: sum what the peers sent, rectify it, wait for the last layer's sends if there were any, send it to every peer. -/
def gather (wait : Bool) (a : FVec F S32x512 .f32) : TcProg F (FVec F S32x512 .f32) :=
  (over (recvA arg9 harg9 arg12) peers a).bind fun a =>
  (putH arg10 harg10 d0 a).bind fun _ =>
  (match wait with
    | true => over (fun j _ => doneB arg10 harg10 arg13 d0 j) peers ()
    | false => .ret ()).bind fun _ =>
  (over (fun j _ => sendB arg10 harg10 arg13 arg14 d0 j) peers ()).bind fun _ =>
  .ret (relu a)

/-- One layer that is followed by another. -/
def middle (wait : Bool) (argO : Memref sig .tc .vmem S512x256 .f32) (argI : Memref sig .tc .vmem S256x512 .f32) (a : FVec F S32x512 .f32) : TcProg F (FVec F S32x512 .f32) :=
  (gather arg9 harg9 arg10 harg10 arg12 arg13 arg14 d0 wait a).bind fun h =>
  .op (.load argO (Rect.unit (s := S512x256) ![0, 0] S512x256.size inb_S512x256_S512x256_0_0).toLoadRect (View.loadsAt_vmem h_S512x256)) fun vo =>
  .op (.load argI (Rect.unit (s := S256x512) ![0, 0] S256x512.size inb_S256x512_S256x512_0_0).toLoadRect (View.loadsAt_vmem h_S256x512)) fun vi =>
  (over (nextA arg8 harg8 arg9 harg9 arg10 harg10 arg11 arg12 arg14 d0 (k0_pay10 vo) (k0_pay11 vi)) peers ()).bind fun _ =>
  .ret (k0_pay12 h vo vi)

/-- The last layer, and the wait for the last sends. -/
def closing (a : FVec F S32x512 .f32) : TcProg F PUnit :=
  (gather arg9 harg9 arg10 harg10 arg12 arg13 arg14 d0 true a).bind fun h =>
  .op (.load arg6 (Rect.unit (s := S512x256) ![0, 0] S512x256.size inb_S512x256_S512x256_0_0).toLoadRect (View.loadsAt_vmem h_S512x256)) fun vo =>
  .op (.load arg7 (Rect.unit (s := S512x256) (k0_off5 d0) S32x256.size (k0_off5_inb d0)).toLoadRect (View.loadsAt_vmem h_S32x256)) fun _ =>
  .op (.store arg7 (Rect.unit (s := S512x256) (k0_off5 d0) S32x256.size (k0_off5_inb d0)) (k0_pay77 h vo) Finset.univ
    (View.stores_vmem_bits_univ h_S32x256 rfl) (.inl rfl)) fun _ =>
  (over (lastOut arg7 arg8 harg8 arg9 harg9 arg10 harg10 arg11 arg14 d0 (k0_pay76 vo)) peers ()).bind fun _ =>
  (over (fun j _ => doneB arg10 harg10 arg13 d0 j) peers ()).bind fun _ => .ret ⟨⟩

/-- The whole body. -/
def looped : TcProg F PUnit :=
  .op .deviceId fun d0 =>
  (opening arg0 arg1 arg8 harg8 arg9 harg9 arg11 arg12 d0).bind fun a =>
  (middle arg8 harg8 arg9 harg9 arg10 harg10 arg11 arg12 arg13 arg14 d0 false arg2 arg3 a).bind fun a =>
  (middle arg8 harg8 arg9 harg9 arg10 harg10 arg11 arg12 arg13 arg14 d0 true arg4 arg5 a).bind fun a =>
  closing arg6 arg7 arg8 harg8 arg9 harg9 arg10 harg10 arg11 arg12 arg13 arg14 d0 a

end Program

end Cert.Mlp

end
-- ==== Proof.Cells.lean ====
/-
  The kernel's semaphores, buffers, and what device `c` owes and waits for.

  Devices and displacements are both numbers modulo 16: the peer of `c` at displacement `j` is `c + j`, and `c` is that peer's peer at displacement `-j`.
  Each device has one entry cell (the barrier semaphore) and four arrays of sixteen transfer cells, of which the fifteen at a nonzero displacement are used:
    kind 0: the sends of partial products (waited for by the sender),      kind 1: their arrivals (`c`'s cell `j` counts what `c + j` sends),
    kind 2: the sends of hidden rows (waited for by the sender),            kind 3: their arrivals.
-/
module

public import proofs.«01_k».proof.Proof.Loop
public import proofs.«01_k».proof.Proof.Gen.KernelIdeal.Launch
public import Idealize.ShloMosaic.Lib.Pipeline.Launch
public import Idealize.ShloMosaic.Lib.Pipeline.Kit
public import Idealize.ShloMosaic.Lib.Memref
public import Idealize.ShloMosaic.Lib.Tactic

@[expose] public section

noncomputable section

namespace Cert.Mlp

open Cert.KernelIdeal Cert.KernelIdeal.Gen Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy, and the kernel's own with duties named by displacements -/

abbrev UB : Type := URounds (GSem nD τ sig) (Fin 16)
abbrev UU : Type := UR sig nD τ × UB

/-- Credits are indexed by rounds: what is owed to a cell for one layer differs from what is owed to it for the next. -/
abbrev MM (F : FTy → Type) [FloatOps F] : Type := MT nD τ sig ℕ (Elt F) ℕ UU ℕ

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Peers -/

/-- The peer at displacement `j`. -/
def peer (c : Dev nD) (j : Fin 16) : Dev nD := (show Fin 16 from c) + j
theorem peer_val (c : Dev nD) (j : Fin 16) : (peer c j).val = (c.val + j.val) % 16 := Fin.val_add _ _
theorem peer_neg : ∀ (c : Dev nD) (j : Fin 16), peer (peer c j) (-j) = c := by decide +kernel
theorem peer_neg' : ∀ (c : Dev nD) (j : Fin 16), peer (peer c (-j)) j = c := by decide +kernel
theorem neg_neg16 : ∀ j : Fin 16, - -j = j := by decide
theorem dev_eq (c : Dev nD) (j : Fin 16) : (⟨devW c (BitVec.ofNat 32 j.val), devW_lt c j⟩ : Dev nD) = peer c j :=
  Fin.ext ((devW_eq c j).trans (peer_val c j).symm)
theorem neg_ne : ∀ {j : Fin 16}, j ≠ 0 → -j ≠ 0 := by decide
/-- A device's peers at a displacement, over all devices. -/
def shift (j : Fin 16) : Dev nD ≃ Dev nD := ⟨fun c => peer c j, fun c => peer c (-j), fun c => peer_neg c j, fun c => peer_neg' c j⟩
/-- A displacement turned round. -/
def turn : Fin 16 ≃ Fin 16 := ⟨fun j => -j, fun j => -j, neg_neg16, neg_neg16⟩
/-- A device's peers, over all displacements. -/
def around (c : Dev nD) : Fin 16 ≃ Dev nD := ⟨fun j => peer c j, fun d => (show Fin 16 from d) - (show Fin 16 from c),
  by revert c; decide +kernel, by revert c; decide +kernel⟩
theorem peer_zero : ∀ c : Dev nD, peer c 0 = c := by decide

/-! ## The cells -/

/-- The entry semaphore. -/
abbrev barS : Sem sig := (SemArray.scalar (sig.barrier 0 rfl) : Sems sig S_).sem
theorem dma_lt (q : Fin 4) (j : Fin 16) : 8 + 16 * q.val + j.val < sig.nDmaSem := by
  show _ < 72
  have := q.isLt; have := j.isLt; omega
/-- The transfer semaphore of kind `q` at displacement `j`. -/
def dsem (q : Fin 4) (j : Fin 16) : DmaSem sig := ⟨8 + 16 * q.val + j.val, dma_lt q j⟩
theorem semAt_0 : ∀ j, semAt cc0_scratch3 j = dsem 0 j := by decide +kernel
theorem semAt_1 : ∀ j, semAt cc0_scratch4 j = dsem 1 j := by decide +kernel
theorem semAt_2 : ∀ j, semAt cc0_scratch5 j = dsem 2 j := by decide +kernel
theorem semAt_3 : ∀ j, semAt cc0_scratch6 j = dsem 3 j := by decide +kernel

/-- The kernel's own semaphores. -/
abbrev osem (k : Fin 4 × Fin 16) : SemLoc sig := .dma (dsem k.1 k.2)
/-- All the semaphores the protocol uses: the entry semaphore, and the kernel's own. -/
abbrev csem (k : Option (Fin 4 × Fin 16)) : SemLoc sig := match k with
  | none => .reg barS
  | some k => osem k

/-- Which semaphore of the protocol a semaphore is, if it is one. -/
def kind : SemLoc sig → Option (Option (Fin 4 × Fin 16))
  | .reg _ => some none
  | .dma i => if h : 8 ≤ i.val then some (some (⟨(i.val - 8) / 16, by have : i.val < 72 := i.isLt; omega⟩, ⟨(i.val - 8) % 16, Nat.mod_lt _ (by decide)⟩)) else none
theorem kind_csem (k : Option (Fin 4 × Fin 16)) : kind (csem k) = some k := by
  rcases k with _ | ⟨q, j⟩
  · rfl
  · have hq := q.isLt; have hj := j.isLt
    show (if h : 8 ≤ 8 + 16 * q.val + j.val then _ else _) = _
    rw [dif_pos (by omega)]
    congr 3
    · exact Fin.ext (show (8 + 16 * q.val + j.val - 8) / 16 = q.val by omega)
    · exact Fin.ext (show (8 + 16 * q.val + j.val - 8) % 16 = j.val by omega)

/-- Device `c`'s cell. -/
abbrev cell (c : Dev nD) (k : Option (Fin 4 × Fin 16)) : GSem nD τ sig := (c.tc, csem k)
abbrev kcell (ck : Dev nD × Option (Fin 4 × Fin 16)) : GSem nD τ sig := cell ck.1 ck.2
abbrev barC (c : Dev nD) : GSem nD τ sig := cell c none
abbrev xC (c : Dev nD) (q : Fin 4) (j : Fin 16) : GSem nD τ sig := cell c (some (q, j))

theorem kcell_injective : Function.Injective kcell := by
  rintro ⟨c, k⟩ ⟨c', k'⟩ h
  have h1 : c = c' := congrArg (fun g : GSem nD τ sig => g.1.1) h
  have h2 : csem k = csem k' := congrArg Prod.snd h
  have h3 : some k = some k' := by rw [← kind_csem, ← kind_csem, h2]
  rw [h1, Option.some.inj h3]

/-! ## The buffers -/

/-- The partial products, the receive slots, the hidden layer. -/
abbrev Pm : Memref sig .tc .vmem S512x512 .bf16 := Memref.whole cc0_scratch0
abbrev Rm : Memref sig .tc .vmem S16x32x512 .bf16 := Memref.whole cc0_scratch1
abbrev Hm : Memref sig .tc .vmem S512x512 .bf16 := Memref.whole cc0_scratch2

theorem row_inb : ∀ (d : Dev nD), ∀ a, (![32 * d.val, 0] : Fin 2 → ℕ) a + S32x512.size a ≤ S512x512.size a := by decide +kernel
/-- The rectangle of device `d`'s rows. -/
abbrev rowR (d : Dev nD) : Rect S512x512 := Rect.unit (s := S512x512) ![32 * d.val, 0] S32x512.size (row_inb d)
/-- Device `d`'s rows of a 512×512 buffer. -/
abbrev rowM (M : Memref sig .tc .vmem S512x512 .bf16) (d : Dev nD) : Memref sig .tc .vmem S32x512 .bf16 := M.slice (rowR d) (fun _ => rfl)

theorem rows_eq {off : Fin 2 → ℕ} (d : Dev nD) (h : off = ![32 * d.val, 0]) (inb : ∀ a, off a + S32x512.size a ≤ S512x512.size a) (M : Memref sig .tc .vmem S512x512 .bf16) :
    (M.slice (Rect.unit (s := S512x512) off S32x512.size inb) (fun _ => rfl) : Memref sig .tc .vmem S32x512 .bf16) = rowM M d := by subst h; rfl
theorem off1_peer (c : Dev nD) (j : Fin 16) : k0_off1 c (BitVec.ofNat 32 j.val) = ![32 * (peer c j).val, 0] := by rw [off1_eq, peer_val]
theorem off4_peer (c : Dev nD) (j : Fin 16) : k0_off4 c (BitVec.ofNat 32 j.val) = ![32 * (peer c j).val, 0] := by rw [off4_eq, peer_val]
theorem rowsTo_eq (M : Memref sig .tc .vmem S512x512 .bf16) (c : Dev nD) (j : Fin 16) : rowsTo M c j = rowM M (peer c j) := rows_eq _ (off1_peer c j) _ M
theorem rowsOwn_eq (M : Memref sig .tc .vmem S512x512 .bf16) (c : Dev nD) : rowsOwn M c = rowM M c := rows_eq _ (k0_off3_eq c) _ M

/-- What one transfer pays. -/
def N : ℕ := (slotOf Rm 0).view.dmaCredit
theorem N_pos : 0 < N := View.dmaCredit_pos _ (by decide)
theorem amount_slot (j : Fin 16) (sm : DmaSem sig) : (slotOf Rm j).view.amount (.dma sm) = N := rfl
theorem amount_row_P (d : Dev nD) (sm : DmaSem sig) : (rowM Pm d).view.amount (.dma sm) = N := rfl
theorem amount_row_H (d : Dev nD) (sm : DmaSem sig) : (rowM Hm d).view.amount (.dma sm) = N := rfl

/-! ## Lists of displacements -/

theorem peers_ne : ∀ j ∈ peers, j ≠ 0 := by decide
theorem peers_nodup : peers.Nodup := by decide

/-- The separating conjunction over a list. -/
def sepL (Φ : Fin 16 → sProp (MM F)) : List (Fin 16) → sProp (MM F)
  | [] => iprop(emp)
  | j :: l => iprop(Φ j ∗ sepL Φ l)

theorem sepL_eq (Φ : Fin 16 → sProp 𝕄) : ∀ l : List (Fin 16), l.Nodup → sepL Φ l = bigSep l.toFinset Φ
  | [], _ => by rw [List.toFinset_nil, bigSep_empty]; rfl
  | j :: l, h => by
    rw [List.toFinset_cons, bigSep_insert (fun hj => (List.nodup_cons.mp h).1 (List.mem_toFinset.mp hj)), ← sepL_eq Φ l (List.nodup_cons.mp h).2]; rfl
theorem sepL_cons (Φ : Fin 16 → sProp 𝕄) (j : Fin 16) (l : List (Fin 16)) : sepL Φ (j :: l) = iprop(Φ j ∗ sepL Φ l) := rfl
/-- Over all displacements: displacement 0 and the fifteen peers. -/
theorem bigSep_peers (Φ : Fin 16 → sProp 𝕄) : bigSep Finset.univ Φ = iprop(Φ 0 ∗ sepL Φ peers) := by
  rw [sepL_eq Φ peers peers_nodup, show (Finset.univ : Finset (Fin 16)) = insert 0 peers.toFinset by decide, bigSep_insert (by decide)]; rfl
theorem bigSep_erase (Φ : Fin 16 → sProp 𝕄) : bigSep (Finset.univ.erase 0) Φ = sepL Φ peers := by
  rw [sepL_eq Φ peers peers_nodup, show (Finset.univ.erase 0 : Finset (Fin 16)) = peers.toFinset by decide]
theorem sepL_mono {Φ Ψ : Fin 16 → sProp 𝕄} (l : List (Fin 16)) (h : ∀ j ∈ l, (Φ j : sProp 𝕄) ⊢ Ψ j) : (sepL Φ l : sProp 𝕄) ⊢ sepL Ψ l := by
  induction l with
  | nil => exact .rfl
  | cons j l ih => exact Laws.sep_mono (h j List.mem_cons_self) (ih fun i hi => h i (List.mem_cons_of_mem _ hi))
/-- Two families side by side are one family of pairs. -/
theorem sepL_zip (Φ Ψ : Fin 16 → sProp 𝕄) (l : List (Fin 16)) : iprop(sepL Φ l ∗ sepL Ψ l) ⊢ sepL (fun j => iprop(Φ j ∗ Ψ j)) l := by
  induction l with
  | nil => exact BI.sep_emp_elim
  | cons j l ih =>
    refine BIBase.Entails.trans ?_ (Laws.sep_mono .rfl ih)
    rw [sepL_cons, sepL_cons]
    iintro ⟨⟨H1, H3⟩, H2, H4⟩
    isplitl [H1 H2]
    · isplitl [H1] <;> iassumption
    · isplitl [H3] <;> iassumption
theorem sepL_unzip (Φ Ψ : Fin 16 → sProp 𝕄) (l : List (Fin 16)) : sepL (fun j => iprop(Φ j ∗ Ψ j)) l ⊢ iprop(sepL Φ l ∗ sepL Ψ l) := by
  induction l with
  | nil => exact BI.sep_emp_intro
  | cons j l ih =>
    refine BIBase.Entails.trans (Laws.sep_mono .rfl ih) ?_
    rw [sepL_cons, sepL_cons]
    iintro ⟨⟨H1, H2⟩, H3, H4⟩
    isplitl [H1 H3]
    · isplitl [H1] <;> iassumption
    · isplitl [H2] <;> iassumption

end Cert.Mlp

end
-- ==== Proof.Schedule.lean ====
/-
  The protocol: who signals whom, in which order, and what each arrival hands over.

  The exchange of layer `r` is round `r` of every transfer cell. An arrival hands its receiver the block it carried, and with it the buffers the sender has finished with and the receiver
  will next write: so a buffer is owned by the device that may write it, at every moment, and no device need wait for more than it does.
-/
module

public import proofs.«01_k».proof.Proof.Cells

@[expose] public section

noncomputable section

namespace Cert.Mlp

open Cert.KernelIdeal Cert.KernelIdeal.Gen Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The blocks the exchange moves: `part r c d`, device `c`'s partial product of device `d`'s rows in layer `r`; `hid r c`, device `c`'s rows of the hidden layer. -/
structure Blocks (F : FTy → Type) [FloatOps F] where
  part : ℕ → Dev nD → Dev nD → FVec F S32x512 .bf16
  hid : ℕ → Dev nD → FVec F S32x512 .bf16

/-- Device `c` owns a buffer it may overwrite. -/
def free (c : Dev nD) {sp : Space} {sh : Shape} {e : EltTy} (M : Memref sig .tc sp sh e) : sProp (MM F) := iprop(∃ X : sh.Idx → Elt F e, ownsTc c M fullShare X)
instance free_storable (c : Dev nD) {sp : Space} {sh : Shape} {e : EltTy} (M : Memref sig .tc sp sh e) : BI.Storable (upEmb : UEmb _ 𝕄) (free (F := F) c M) := by
  unfold free; infer_instance
/-- The part of the ownership of a device's own hidden rows that travels with the transfer at displacement `j`. -/
abbrev tok (j : Fin 16) : PosShare TreeShare := Transfers.shareTok fullShare 16 j

variable (V : Blocks F)

/-! ## What an arrival hands over -/

/-- Entry: the peer's receive slot for this device, and its copy of this device's hidden rows. -/
def barPay (c : Dev nD) (j : Fin 16) : sProp (MM F) := iprop(free (peer c j) (slotOf Rm (-j)) ∗ free (peer c j) (rowM Hm c))
/-- A partial product beyond the first layer comes with the peer's copy of this device's hidden rows, the part of the ownership of this device's own rows that went with them, and that the peer has taken them. -/
def extraA (c : Dev nD) (j : Fin 16) : ℕ → sProp (MM F)
  | 0 => iprop(emp)
  | r + 1 => iprop(free (peer c j) (rowM Hm c) ∗ ownsTc c (rowM Hm c) (tok j) (V.hid r c) ∗ reached ER (xC (peer c j) 3 (-j)) (r + 1))
def payA (c : Dev nD) (j : Fin 16) (r : ℕ) : sProp (MM F) := iprop(ownsTc c (slotOf Rm j) fullShare (V.part r (peer c j) c) ∗ extraA V c j r)
/-- Hidden rows before the last layer come with the peer's receive slot for this device, and that the peer has taken what was in it. -/
def extraB (c : Dev nD) (j : Fin 16) (r : ℕ) : sProp (MM F) := iprop(free (peer c j) (slotOf Rm (-j)) ∗ reached ER (xC (peer c j) 1 (-j)) (r + 1))
def payB (c : Dev nD) (j : Fin 16) (r : ℕ) : sProp (MM F) :=
  iprop(ownsTc c (rowM Hm (peer c j)) fullShare (V.hid r (peer c j)) ∗
    if r < 2 then iprop(extraB c j r ∗ ownsTc (peer c j) (rowM Hm (peer c j)) (tok (-j)) (V.hid r (peer c j))) else iprop(emp))
/-- A finished send of a partial product gives its rows back. -/
def backA (c : Dev nD) (j : Fin 16) : sProp (MM F) := free c (rowM Pm (peer c j))
/-- A finished send of hidden rows gives their share back in the last layer; before, the share has gone with the rows. -/
def backB (c : Dev nD) (j : Fin 16) (r : ℕ) : sProp (MM F) := if r < 2 then iprop(emp) else ownsTc c (rowM Hm c) (tok j) (V.hid r c)

def payOf (c : Dev nD) (r : ℕ) (d : Fin 16) : Option (Fin 4 × Fin 16) → sProp (MM F)
  | none => barPay c d
  | some (0, j) => backA c j
  | some (1, j) => payA V c j r
  | some (2, j) => backB V c j r
  | some (3, j) => payB V c j r

instance extraA_storable (c : Dev nD) (j : Fin 16) (r : ℕ) : BI.Storable (upEmb : UEmb _ 𝕄) (extraA V c j r) := by cases r <;> (unfold extraA; infer_instance)
instance payOf_storable (c : Dev nD) (r : ℕ) (d : Fin 16) (k : Option (Fin 4 × Fin 16)) : BI.Storable (upEmb : UEmb _ 𝕄) (payOf V c r d k) := by
  rcases k with _ | ⟨q, j⟩
  · show BI.Storable _ (barPay c d); unfold barPay; infer_instance
  · match q with
    | 0 => show BI.Storable _ (backA c j); unfold backA; infer_instance
    | 1 => show BI.Storable _ (payA V c j r); unfold payA; infer_instance
    | 2 => show BI.Storable _ (backB V c j r); unfold backB; split <;> infer_instance
    | 3 => show BI.Storable _ (payB V c j r); unfold payB extraB; split <;> infer_instance

/-! ## The schedule -/

def dutiesOf (r : ℕ) : Option (Fin 4 × Fin 16) → Finset (Fin 16)
  | none => if r = 0 then Finset.univ.erase 0 else ∅
  | some (_, j) => if j ≠ 0 ∧ r < 3 then {0} else ∅

/-- An entry cell has one round, a unit from each peer; a transfer cell at a nonzero displacement three, each one transfer. -/
def Rd : Rounds.Schedule (GSem nD τ sig) (Fin 16) (MM F) where
  duties g r := if g.1.2 = .tc then (match kind g.2 with | some k => dutiesOf r k | none => ∅) else ∅
  unitless _ := False
  amount g _ _ := if kind g.2 = some none then 1 else N
  payload g r d := match kind g.2 with | some k => payOf V g.1.1 r d k | none => iprop(emp)
  amount_pos g _ _ _ := by
    by_cases h : kind g.2 = some none
    · rw [if_pos h]; exact Nat.one_pos
    · rw [if_neg h]; exact N_pos

instance Rd_payload_storable (g : GSem nD τ sig) (r : ℕ) (d : Fin 16) : BI.Storable (upEmb : UEmb _ 𝕄) ((Rd V).payload g r d) := by
  show BI.Storable upEmb (match kind g.2 with | some k => payOf V g.1.1 r d k | none => iprop(emp))
  split <;> infer_instance

theorem duties_cell (c : Dev nD) (k : Option (Fin 4 × Fin 16)) (r : ℕ) : (Rd V).duties (cell c k) r = dutiesOf r k := by
  show (if (cell c k).1.2 = .tc then (match kind (csem k) with | some k => dutiesOf r k | none => ∅) else ∅) = _
  rw [if_pos rfl, kind_csem]
theorem payload_cell (c : Dev nD) (k : Option (Fin 4 × Fin 16)) (r : ℕ) (d : Fin 16) : (Rd V).payload (cell c k) r d = payOf V c r d k := by
  show (match kind (csem k) with | some k => payOf V c r d k | none => iprop(emp)) = _
  rw [kind_csem]
theorem amount_cell (c : Dev nD) (k : Option (Fin 4 × Fin 16)) (r : ℕ) (d : Fin 16) : (Rd V).amount (cell c k) r d = if k = none then 1 else N := by
  show (if kind (csem k) = some none then 1 else N) = _
  rw [kind_csem]; simp only [Option.some.injEq]

theorem duties_x (c : Dev nD) (q : Fin 4) {j : Fin 16} (hj : j ≠ 0) {r : ℕ} (hr : r < 3) : (Rd V).duties (xC c q j) r = {0} := by
  rw [duties_cell]; exact if_pos ⟨hj, hr⟩
theorem duties_x_late (c : Dev nD) (q : Fin 4) (j : Fin 16) : ∀ r, 3 ≤ r → (Rd V).duties (xC c q j) r = ∅ := fun r hr => by
  rw [duties_cell]; exact if_neg fun h => by omega
theorem duties_x_zero (c : Dev nD) (q : Fin 4) : ∀ r, 0 ≤ r → (Rd V).duties (xC c q 0) r = ∅ := fun r _ => by
  rw [duties_cell]; simp [dutiesOf]
theorem duties_bar (c : Dev nD) : (Rd V).duties (barC c) 0 = Finset.univ.erase 0 := by rw [duties_cell]; unfold dutiesOf; rw [if_pos rfl]
theorem mem_duties_bar (c : Dev nD) {j : Fin 16} (hj : j ≠ 0) : j ∈ (Rd V).duties (barC c) 0 := by rw [duties_bar]; exact Finset.mem_erase.mpr ⟨hj, Finset.mem_univ _⟩
theorem mem_duties_x (c : Dev nD) (q : Fin 4) {j : Fin 16} (hj : j ≠ 0) {r : ℕ} (hr : r < 3) : 0 ∈ (Rd V).duties (xC c q j) r := by
  rw [duties_x V c q hj hr]; exact Finset.mem_singleton_self _
theorem amount_bar (c : Dev nD) (d : Fin 16) : (Rd V).amount (barC c) 0 d = 1 := by rw [amount_cell]; rfl
theorem amount_x (c : Dev nD) (q : Fin 4) (j : Fin 16) (r : ℕ) (d : Fin 16) : (Rd V).amount (xC c q j) r d = N := by rw [amount_cell]; rfl
theorem expect_bar (c : Dev nD) : (Rd V).expect (barC c) 0 = 15 := by
  unfold Schedule.expect Schedule.amountOf
  rw [duties_bar, Finset.sum_congr rfl fun d _ => amount_bar V c d]; rfl
theorem expect_x (c : Dev nD) (q : Fin 4) {j : Fin 16} (hj : j ≠ 0) {r : ℕ} (hr : r < 3) : (Rd V).expect (xC c q j) r = N := by
  unfold Schedule.expect Schedule.amountOf
  rw [duties_x V c q hj hr, Finset.sum_singleton, amount_x]
theorem rest_bar (c : Dev nD) : bigSep ((Rd V).duties (barC c) 0 \ ∅) (fun d => (Rd V).payload (barC c) 0 d) = sepL (fun j => barPay (F := F) c j) peers := by
  rw [Finset.sdiff_empty, duties_bar, bigSep_erase]
  exact congrArg (fun Φ => sepL Φ peers) (funext fun d => payload_cell V c none 0 d)
theorem rest_x (c : Dev nD) (q : Fin 4) {j : Fin 16} (hj : j ≠ 0) {r : ℕ} (hr : r < 3) :
    bigSep ((Rd V).duties (xC c q j) r \ ∅) (fun d => (Rd V).payload (xC c q j) r d) = payOf V c r 0 (some (q, j)) := by
  rw [Finset.sdiff_empty, duties_x V c q hj hr, bigSep_singleton, payload_cell]

/-- What a device hands a peer, in the giver's terms. -/
theorem barPay_peer (c : Dev nD) (j : Fin 16) : barPay (F := F) (peer c j) (-j) = iprop(free c (slotOf Rm j) ∗ free c (rowM Hm (peer c j))) := by
  unfold barPay; rw [peer_neg, neg_neg16]
theorem payA_peer (c : Dev nD) (j : Fin 16) (r : ℕ) :
    payA V (peer c j) (-j) r = iprop(ownsTc (peer c j) (slotOf Rm (-j)) fullShare (V.part r c (peer c j)) ∗ extraA V (peer c j) (-j) r) := by
  unfold payA; rw [peer_neg]
theorem extraA_peer (c : Dev nD) (j : Fin 16) (r : ℕ) : extraA V (peer c j) (-j) (r + 1)
    = iprop(free c (rowM Hm (peer c j)) ∗ ownsTc (peer c j) (rowM Hm (peer c j)) (tok (-j)) (V.hid r (peer c j)) ∗ reached ER (xC c 3 j) (r + 1)) := by
  show iprop(free (peer (peer c j) (-j)) _ ∗ _ ∗ reached ER (xC (peer (peer c j) (-j)) 3 (- -j)) (r + 1)) = _
  rw [peer_neg, neg_neg16]
theorem payB_peer (c : Dev nD) (j : Fin 16) (r : ℕ) : payB V (peer c j) (-j) r = iprop(ownsTc (peer c j) (rowM Hm c) fullShare (V.hid r c) ∗
    if r < 2 then iprop(extraB (peer c j) (-j) r ∗ ownsTc c (rowM Hm c) (tok j) (V.hid r c)) else iprop(emp)) := by
  unfold payB; rw [peer_neg, neg_neg16]
theorem extraB_peer (c : Dev nD) (j : Fin 16) (r : ℕ) : extraB (F := F) (peer c j) (-j) r = iprop(free c (slotOf Rm j) ∗ reached ER (xC c 1 j) (r + 1)) := by
  unfold extraB; rw [peer_neg, neg_neg16]

/-! ## What a device owes, stage by stage; the levels -/

/-- Stages `2 r` and `2 r + 1` send layer `r`'s partial products and hidden rows. -/
def stq (k : ℕ) : Fin 4 := if k % 2 = 0 then 1 else 3
theorem stq_even (r : ℕ) : stq (2 * r) = 1 := if_pos (by omega)
theorem stq_odd (r : ℕ) : stq (2 * r + 1) = 3 := if_neg (by omega)

/-- What is owed to the peers in a list, in stage `k`. -/
def owedX (c : Dev nD) (k : ℕ) : List (Fin 16) → CellTallies nD τ sig ℕ
  | [] => 0
  | j :: l => owedX c k l + tallyAt (xC (peer c j) (stq k) (-j)) (k / 2) N
def owedBar (c : Dev nD) : List (Fin 16) → CellTallies nD τ sig ℕ
  | [] => 0
  | j :: l => owedBar c l + tallyAt (barC (peer c j)) 0 1
/-- What is owed from stage `k` on. -/
def tail (c : Dev nD) (k : ℕ) : CellTallies nD τ sig ℕ := ∑ k' ∈ Finset.Ico k 6, owedX c k' peers
theorem tail_step (c : Dev nD) {k : ℕ} (hk : k < 6) : tail c k = owedX c k peers + tail c (k + 1) := by
  unfold tail
  rw [show Finset.Ico k 6 = insert k (Finset.Ico (k + 1) 6) by ext i; rw [Finset.mem_insert, Finset.mem_Ico, Finset.mem_Ico]; omega,
    Finset.sum_insert fun h => absurd (Finset.mem_Ico.mp h).1 (by omega)]
theorem tail_end (c : Dev nD) : tail c 6 = 0 := by unfold tail; rw [Finset.Ico_self, Finset.sum_empty]

def L (g : GSem nD τ sig) : Finset ℕ := if g.1.2 = .tc then Finset.range 3 else ∅
/-- The entry cells below everything the transfers are owed; a transfer's level is its stage's; the staging and send cells below all. -/
def lv (g : GSem nD τ sig) (u : ℕ) : ℕ := match kind g.2 with
  | some none => 1
  | some (some (q, _)) => if q = 1 then 2 + 2 * u else if q = 3 then 3 + 2 * u else 0
  | none => 0
theorem L_of_ne (g : GSem nD τ sig) (h : g.1.2 ≠ .tc) : L g = ∅ := if_neg h
theorem L_tc (c : Dev nD) (sm : SemLoc sig) : L (c.tc, sm) = Finset.range 3 := if_pos rfl
theorem lv_x (c : Dev nD) (q : Fin 4) (j : Fin 16) (u : ℕ) : lv (xC c q j) u = if q = 1 then 2 + 2 * u else if q = 3 then 3 + 2 * u else 0 := by
  unfold lv; rw [show (xC c q j).2 = csem (some (q, j)) from rfl, kind_csem]
theorem lv_bar (c : Dev nD) (u : ℕ) : lv (barC c) u = 1 := by unfold lv; rw [show (barC c).2 = csem none from rfl, kind_csem]
theorem lv_stage (c : Dev nD) (j : Fin 16) (k : ℕ) : lv (xC c (stq k) j) (k / 2) = 2 + k := by
  rw [lv_x]; unfold stq
  split
  · rw [if_pos rfl]; omega
  · rw [if_neg (by decide), if_pos rfl]; omega

theorem owedX_pos {c : Dev nD} {k : ℕ} {g : GSem nD τ sig} {u : ℕ} : ∀ {l : List (Fin 16)}, 0 < owedX c k l g u → ∃ j, g = xC (peer c j) (stq k) (-j) ∧ u = k / 2
  | [], h => absurd h (Nat.lt_irrefl 0)
  | j :: l, h => by
    unfold owedX at h
    rw [Pi.add_apply, Finsupp.add_apply, tallyAt_apply] at h
    by_cases hg : g = xC (peer c j) (stq k) (-j) ∧ u = k / 2
    · exact ⟨j, hg⟩
    · rw [if_neg hg] at h; exact owedX_pos h
theorem owedBar_pos {c : Dev nD} {g : GSem nD τ sig} {u : ℕ} : ∀ {l : List (Fin 16)}, 0 < owedBar c l g u → ∃ j, g = barC (peer c j) ∧ u = 0
  | [], h => absurd h (Nat.lt_irrefl 0)
  | j :: l, h => by
    unfold owedBar at h
    rw [Pi.add_apply, Finsupp.add_apply, tallyAt_apply] at h
    by_cases hg : g = barC (peer c j) ∧ u = 0
    · exact ⟨j, hg⟩
    · rw [if_neg hg] at h; exact owedBar_pos h

/-- A tally of which every entry is of a level above `n` and of a round below 3. -/
def Above (n : ℕ) (O : CellTallies nD τ sig ℕ) : Prop := ∀ g u, 0 < O g u → u ∈ L g ∧ n < lv g u
theorem Above.zero (n : ℕ) : Above n 0 := fun g u h => absurd h (Nat.lt_irrefl 0)
theorem Above.add {n : ℕ} {O O' : CellTallies nD τ sig ℕ} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_owedX (c : Dev nD) {k n : ℕ} (hk : k < 6) (hn : n < 2 + k) (l : List (Fin 16)) : Above n (owedX c k l) := fun g u hg => by
  obtain ⟨j, rfl, rfl⟩ := owedX_pos hg
  rw [lv_stage]
  exact ⟨by rw [L_tc]; exact Finset.mem_range.mpr (by omega), hn⟩
theorem above_owedBar (c : Dev nD) (l : List (Fin 16)) : Above 0 (owedBar c l) := fun g u hg => by
  obtain ⟨j, rfl, rfl⟩ := owedBar_pos hg
  rw [lv_bar]
  exact ⟨by rw [L_tc]; exact Finset.mem_range.mpr (by omega), by omega⟩
theorem above_tail (c : Dev nD) {n : ℕ} : ∀ {k : ℕ}, n < 2 + k → Above n (tail c k) := fun {k} hn => by
  unfold tail
  refine Finset.sum_induction _ (Above n) (fun _ _ => Above.add) (Above.zero n) fun k' hk' => ?_
  have := Finset.mem_Ico.mp hk'
  exact above_owedX c this.2 (by omega) peers

/-- A device may wait for a cell below everything it owes. -/
theorem mayWait (c : Dev nD) (sm : SemLoc sig) {u n : ℕ} (hu : u < 3) (hn : lv (c.tc, sm) u ≤ n) {O : CellTallies nD τ sig ℕ} (hO : Above n O) :
    (levAts L lv : sProp 𝕄) ⊢ MayWait (c.tc : Thread nD τ) sm u O :=
  MayOwe.of_cut (L := L) (lev := lv) n (fun p hp => by rw [Finset.mem_singleton.mp hp, L_tc]; exact Finset.mem_range.mpr hu)
    (fun g v hg => (hO g v hg).1) (fun p hp => by rw [Finset.mem_singleton.mp hp]; exact hn) (fun g v hg => (hO g v hg).2)

end Cert.Mlp

end
-- ==== Proof.Run.lean ====
/-
  Running the kernel's program: the loop rule, and the rules for signals, waits and sends at the protocol's cells.
-/
module

public import proofs.«01_k».proof.Proof.Schedule

@[expose] public section

noncomputable section

namespace Cert.Mlp

open Cert.KernelIdeal Cert.KernelIdeal.Gen Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- Device `c` runs `p` to `Q`. -/
abbrev runs (c : Dev nD) {α : Type} (p : TcProg F α) (Q : α → sProp (MM F)) : sProp (MM F) :=
  wp frame (wpE (defs₀ (F := F)) 𝒱₀ (c.tc : Thread nD τ) none) Set.univ p Q

theorem runs_ret (c : Dev nD) {α : Type} (a : α) (Q : α → sProp 𝕄) : Q a ⊢ runs c (.ret a) Q := le_wp_ret _ _ _ a Q
theorem runs_bind (c : Dev nD) {α β : Type} (p : TcProg F α) (k : α → TcProg F β) (Q : β → sProp 𝕄) :
    runs c (p.bind k) Q = runs c p (fun a => runs c (k a) Q) := wp_bind _ _ _ p k Q
/-- One piece, then the rest: the piece takes `P` to `R`, what it does not need goes round it. -/
theorem runs_seq (c : Dev nD) {α β : Type} {p : TcProg F α} {k : α → TcProg F β} {P : sProp 𝕄} {R : α → sProp 𝕄} {Q : β → sProp 𝕄} (h : P ⊢ runs c p R) :
    P ⊢ iprop((∀ a, R a -∗ runs c (k a) Q) -∗ runs c (p.bind k) Q) := by
  iintro HP HK
  rw [runs_bind]
  iapply (wp_wand_r _ _ _ (Q := R))
  isplitl [HP]
  · iapply h; iexact HP
  · iexact HK
theorem runs_frame (c : Dev nD) {α : Type} {p : TcProg F α} {P : sProp 𝕄} {R Q : α → sProp 𝕄} (h : P ⊢ runs c p R) :
    P ⊢ iprop((∀ a, R a -∗ Q a) -∗ runs c p Q) := by
  iintro HP HK
  iapply (wp_wand_r _ _ _ (Q := R))
  isplitl [HP]
  · iapply h; iexact HP
  · iexact HK

/-- The loop rule: each step takes its peer's resources `P j` to `Q j` and the loop's state from one list to the next; `R` is at hand throughout. -/
theorem runs_over (c : Dev nD) {σ : Type} (f : Fin 16 → σ → TcProg F σ) (R : sProp 𝕄) [BI.Persistent R] (P Q : Fin 16 → sProp 𝕄) (I : List (Fin 16) → σ → sProp 𝕄)
    (l : List (Fin 16)) (h : ∀ j ∈ l, ∀ l' s, iprop(R ∗ P j ∗ I (j :: l') s) ⊢ runs c (f j s) (fun s' => iprop(Q j ∗ I l' s'))) (s : σ) :
    iprop(R ∗ sepL P l ∗ I l s) ⊢ runs c (over f l s) (fun s' => iprop(sepL Q l ∗ I [] s')) := by
  induction l generalizing s with
  | nil =>
    refine BIBase.Entails.trans ?_ (runs_ret c s _)
    iintro ⟨-, -, HI⟩
    isplitr
    · unfold sepL; iempintro
    · iexact HI
  | cons j l ih =>
    show _ ⊢ runs c ((f j s).bind (over f l)) _
    rw [sepL_cons, sepL_cons]
    iintro ⟨#HR, ⟨HP, HPl⟩, HI⟩
    iapply (runs_seq c (h j List.mem_cons_self l s)) $$ [HP HI]
    · isplitr; · iexact HR
      isplitl [HP] <;> iassumption
    iintro %s' ⟨HQ, HI⟩
    iapply (runs_frame c (ih (fun i hi => h i (List.mem_cons_of_mem _ hi)) s')) $$ [HPl HI]
    · isplitr; · iexact HR
      isplitl [HPl] <;> iassumption
    iintro %s'' ⟨HQl, HI⟩
    isplitl [HQ HQl]
    · isplitl [HQ] <;> iassumption
    · iexact HI

/-! ## What every device knows -/

variable (V : Blocks F) (K : Dev nD × Option (Fin 4 × Fin 16) → ℕ)

/-- Every cell follows the schedule, every cell has reached round 0, and the levels. -/
def know : sProp (MM F) :=
  iprop(bigSep Finset.univ (fun ck => cellInv ER (Rd V) (K ck) (kcell ck)) ∗ bigSep Finset.univ (fun ck => reached ER (kcell ck) 0) ∗ levAts L lv)
instance know_persistent : BI.Persistent (know V K) := by unfold know; infer_instance

theorem know_inv (c : Dev nD) (k : Option (Fin 4 × Fin 16)) : know V K ⊢ cellInv ER (Rd V) (K (c, k)) (cell c k) := by
  unfold know; iintro ⟨H, -, -⟩
  iapply (show (bigSep Finset.univ (fun ck => cellInv ER (Rd V) (K ck) (kcell ck)) : sProp 𝕄) ⊢ cellInv ER (Rd V) (K (c, k)) (cell c k) from bigSep_elim (Finset.mem_univ (c, k))); iexact H
theorem know_reached (c : Dev nD) (k : Option (Fin 4 × Fin 16)) : know V K ⊢ reached ER (cell c k) 0 := by
  unfold know; iintro ⟨-, H, -⟩
  iapply (show (bigSep Finset.univ (fun ck => reached ER (kcell ck) 0) : sProp 𝕄) ⊢ reached ER (cell c k) 0 from bigSep_elim (Finset.mem_univ (c, k))); iexact H
theorem know_wait (c : Dev nD) (sm : SemLoc sig) {u n : ℕ} (hu : u < 3) (hn : lv (c.tc, sm) u ≤ n) {O : CellTallies nD τ sig ℕ} (hO : Above n O) :
    (know V K : sProp 𝕄) ⊢ MayWait (c.tc : Thread nD τ) sm u O := by
  unfold know; iintro ⟨-, -, H⟩; iapply (mayWait c sm hu hn hO); iexact H

/-- What a device owes, having waited for some cells. -/
def owing (c : Dev nD) (O : CellTallies nD τ sig ℕ) : sProp (MM F) := iprop(∃ W, owes (c.tc : Thread nD τ) O W)

/-- Wait for a transfer cell's round. -/
theorem runs_waitX (c : Dev nD) (q : Fin 4) {j : Fin 16} (hj : j ≠ 0) {r : ℕ} (hr : r < 3) {O : CellTallies nD τ sig ℕ} {n : ℕ} (hn : lv (xC c q j) r ≤ n) (hO : Above n O)
    {sm : DmaSem sig} (hsm : sm = dsem q j) {sh : Shape} {e : EltTy} {s s' : Memref sig .tc .vmem sh e} {h₁ h₂} (hN : s'.view.dmaCredit = N)
    {α : Type} {k : PUnit → TcProg F α} {Q : α → sProp 𝕄} :
    iprop(know V K ∗ cred (tallyAt (xC c q j) r N) ∗ owing c O ∗ atPos ER (xC c q j) r ∅ 0)
      ⊢ iprop((owing c O ∗ atPos ER (xC c q j) (r + 1) ∅ 0 ∗ reached ER (xC c q j) (r + 1) ∗ payOf V c r 0 (some (q, j)) -∗ runs c (k ⟨⟩) Q)
        -∗ runs c (.op (.waitDma2 sm s s' h₁ h₂) k) Q) := by
  subst hsm
  unfold owing
  iintro ⟨#HK, Hc, ⟨%W, HO⟩, Hat⟩ Hk
  iapply (Rounds.wp_wait_rest_token 𝒱₀ ER (Rd V) (c.tc : Thread nD τ) none (κ := K (c, some (q, j)))
      (wpE_waitDma2_eq 𝒱₀ (c.tc : Thread nD τ) none Set.univ) (Set.mem_univ _) r (O := O) (W := W) (R := r) (m := 0) (T := ∅)
      (by rw [Nat.zero_add]; exact hN.trans (expect_x V c q hj hr).symm)) $$ [Hc HO Hat]
  · isplitr; · iapply (know_inv V K c (some (q, j))); iexact HK
    isplitl [Hc]; · rw [hN]; iexact Hc
    isplitl [HO]; · iexact HO
    isplitr; · iapply (know_wait V K c (osem (q, j)) hr hn hO); iexact HK
    iexact Hat
  iintro ⟨HO, Hat, Hr, Hp⟩
  iapply Hk
  isplitl [HO]; · iexists _; iexact HO
  isplitl [Hat]; · iexact Hat
  isplitl [Hr]; · iexact Hr
  iapply (Entails.of_eq (rest_x V c q hj hr)) $$ Hp

/-- Wait until every peer has entered. -/
theorem runs_waitBar (c : Dev nD) {O : CellTallies nD τ sig ℕ} (hO : Above 1 O) {α : Type} {k : PUnit → TcProg F α} {Q : α → sProp 𝕄} :
    iprop(know V K ∗ cred (tallyAt (barC c) 0 15) ∗ owing c O ∗ atPos ER (barC c) 0 ∅ 0)
      ⊢ iprop((owing c O ∗ atPos ER (barC c) 1 ∅ 0 ∗ sepL (fun j => barPay (F := F) c j) peers -∗ runs c (k ⟨⟩) Q)
        -∗ runs c (.op (.semWait barS (BitVec.toInt 15#32)) k) Q) := by
  unfold owing
  iintro ⟨#HK, Hc, ⟨%W, HO⟩, Hat⟩ Hk
  iapply (Rounds.wp_wait_rest_token 𝒱₀ ER (Rd V) (c.tc : Thread nD τ) none (κ := K (c, none))
      (wpE_semWait_eq 𝒱₀ (c.tc : Thread nD τ) none Set.univ) (Set.mem_univ _) 0 (O := O) (W := W) (R := 0) (m := 0) (T := ∅)
      (by rw [expect_bar]; decide)) $$ [Hc HO Hat]
  · isplitr; · iapply (know_inv V K c none); iexact HK
    isplitl [Hc]; · iexact Hc
    isplitl [HO]; · iexact HO
    isplitr; · iapply (know_wait V K c (.reg barS) (by decide) (le_of_eq (lv_bar c 0)) hO); iexact HK
    iexact Hat
  iintro ⟨HO, Hat, -, Hp⟩
  iapply Hk
  isplitl [HO]; · iexists _; iexact HO
  isplitl [Hat]; · iexact Hat
  iapply (Entails.of_eq (rest_bar V c)) $$ Hp

/-- Signal a peer at entry. -/
theorem runs_entry (c : Dev nD) {j : Fin 16} (hj : j ≠ 0) (l : List (Fin 16)) (T : CellTallies nD τ sig ℕ) (u : Unit) :
    iprop(know V K ∗ (dutyTok ER (barC (peer c j)) 0 (-j) ∗ free c (slotOf Rm j) ∗ free c (rowM Hm (peer c j))) ∗ owing c (owedBar c (j :: l) + T))
      ⊢ runs c (entryStep c j u) (fun _ => iprop(emp ∗ owing c (owedBar c l + T))) := by
  unfold entryStep owing
  rw [dev_eq]
  iintro ⟨#HK, ⟨Ht, Hs, Hh⟩, ⟨%W, HO⟩⟩
  iapply (Rounds.wp_signal 𝒱₀ ER (Rd V) (c.tc : Thread nD τ) none (dst := ((peer c j).tc : Thread nD τ)) (κ := K (peer c j, none))
      (d := -j) (mem_duties_bar V (peer c j) (neg_ne hj)) ((amount_bar V (peer c j) (-j)).trans (by decide)) 0 (owedBar c l + T)
      (by show owedBar c l + tallyAt (barC (peer c j)) 0 1 + T = _; rw [add_right_comm]; rfl)) $$ [HO Ht Hs Hh]
  · isplitr; · iapply (know_inv V K (peer c j) none); iexact HK
    isplitl [HO]; · iexact HO
    isplitl [Ht]; · iexact Ht
    isplitl
    · rw [show (Rd V).payload ((peer c j).tc, SemLoc.reg barS) 0 (-j) = _ from (payload_cell V (peer c j) none 0 (-j)).trans (barPay_peer c j)]; isplitl [Hs] <;> iassumption
    · iapply (know_reached V K (peer c j) none); iexact HK
  iintro HO
  iapply (runs_ret c (F := F))
  isplitr; · iempintro
  iexists W; iexact HO

end Cert.Mlp

end
-- ==== Proof.Memory.lean ====
/-
  Loads, stores and transfers of the blocks the kernel works on, in terms of who owns which block.
-/
module

public import proofs.«01_k».proof.Proof.Run

@[expose] public section

noncomputable section

namespace Cert.Mlp

open Cert.KernelIdeal Cert.KernelIdeal.Gen Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The device's block of the result -/

abbrev Om : Memref sig .tc .vmem S512x256 .f32 := Memref.whole cc0_stg7_0
theorem rowO_inb : ∀ (d : Dev nD), ∀ a, (![32 * d.val, 0] : Fin 2 → ℕ) a + S32x256.size a ≤ S512x256.size a := by decide +kernel
abbrev rowOR (d : Dev nD) : Rect S512x256 := Rect.unit (s := S512x256) ![32 * d.val, 0] S32x256.size (rowO_inb d)
/-- Device `d`'s rows of the result. -/
abbrev rowO (d : Dev nD) : Memref sig .tc .vmem S32x256 .f32 := Om.slice (rowOR d) (fun _ => rfl)
theorem off6_peer (c : Dev nD) (j : Fin 16) : k0_off6 c (BitVec.ofNat 32 j.val) = ![32 * (peer c j).val, 0] := by rw [off6_eq, peer_val]

/-! ## Loads and stores -/

section Generic
variable (c : Dev nD) {s t : Shape} {e : EltTy} {α : Type} {Q : α → sProp (MM F)}

theorem runs_load (m : Memref sig .tc .vmem s e) (r : Rect s) (hr : ∀ a, r.stride a = 1) {q : PosShare TreeShare} {X : r.shape.Idx → Elt F e}
    {hl : m.view.LoadsAt r.toLoadRect} {k : (r.shape.Idx → Elt F e) → TcProg F α} :
    (ownsTc c (m.slice r hr) q X : sProp 𝕄) ⊢ iprop((ownsTc c (m.slice r hr) q X -∗ runs c (k X) Q) -∗ runs c (.op (.load m r.toLoadRect hl) k) Q) := by
  unfold ownsTc owns
  iintro ⟨%f, %hf, H⟩ Hk
  iapply (wp_load_rect 𝒱₀ (c.tc : Thread nD τ) none Set.univ (m := m) (r := r) subset_rfl) $$ H
  iintro H
  rw [show (m.access r).read (Elt F) f = X from hf]
  iapply Hk
  iexists f
  isplitr; · ipureintro; exact hf
  iexact H

theorem runs_store (m : Memref sig .tc .vmem s e) (r : Rect s) (hr : ∀ a, r.stride a = 1) {w : r.shape.Idx → Elt F e}
    {hx : (m.access r).Stores Finset.univ} {hm} {k : PUnit → TcProg F α} :
    (free c (m.slice r hr) : sProp 𝕄) ⊢ iprop((ownsTc c (m.slice r hr) fullShare w -∗ runs c (k ⟨⟩) Q) -∗ runs c (.op (.store m r w Finset.univ hx hm) k) Q) := by
  unfold free ownsTc owns
  iintro ⟨%X, %f, %hf, H⟩ Hk
  iapply (wp_store 𝒱₀ (c.tc : Thread nD τ) none Set.univ (m := m) (r := r) (Mk := Finset.univ) (by rw [View.setOn_univ])) $$ H
  iintro H
  iapply Hk
  iexists (m.access r).write (Elt F) f w Finset.univ
  isplitr; · ipureintro; exact View.read_write_univ f w
  iexact H

theorem owns_free {sp : Space} (M : Memref sig .tc sp s e) (X : s.Idx → Elt F e) : (ownsTc c M fullShare X : sProp 𝕄) ⊢ free c M := by
  unfold free; iintro H; iexists X; iexact H

theorem unit_emb {off : Fin s.rank → ℕ} (hz : off = fun _ => 0) (inb : ∀ a, off a + s.size a ≤ s.size a) (x : s.Idx) : (Rect.unit (s := s) off s.size inb).emb x = x := by
  subst hz; funext a; exact Fin.ext (by show 0 + 1 * (x a).val = _; omega)

/-- What a memref addresses, rewritten, is owned at the block written; -/
theorem owns_landed (d : Dev nD) (M : Memref sig .tc .vmem s e) (q : PosShare TreeShare) (f : M.view.ty.Contents (Elt F)) (w : s.Idx → Elt F e) :
    (M.view.loc (d.tc : Thread nD τ) ↦[M.view.set]{q} (M.view.write (Elt F) f w Finset.univ) : sProp 𝕄) ⊢ ownsTc d M q w := by
  have h := owns_intro (Ix := ℕ) (Name := ℕ) (U := UU) (Lvl := ℕ) (d.tc : Thread nD τ) M q (M.view.write (Elt F) f w Finset.univ)
  rwa [View.read_write_univ] at h
/-- as it stands, at what it reads. -/
theorem owns_reads (d : Dev nD) (M : Memref sig .tc .vmem s e) (q : PosShare TreeShare) (f : M.view.ty.Contents (Elt F)) {w : s.Idx → Elt F e} (h : M.view.read (Elt F) f = w) :
    (M.view.loc (d.tc : Thread nD τ) ↦[M.view.set]{q} f : sProp 𝕄) ⊢ ownsTc d M q w := by
  subst h; exact owns_intro (d.tc : Thread nD τ) M q f

/-- A load of everything a memref addresses. -/
theorem runs_loadAll (m : Memref sig .tc .vmem s e) {off : Fin s.rank → ℕ} (hz : off = fun _ => 0) (inb : ∀ a, off a + s.size a ≤ s.size a) {q : PosShare TreeShare} {X : s.Idx → Elt F e}
    {hl : m.view.LoadsAt (Rect.unit (s := s) off s.size inb).toLoadRect} {k : (s.Idx → Elt F e) → TcProg F α} :
    (ownsTc c m q X : sProp 𝕄) ⊢ iprop((ownsTc c m q X -∗ runs c (k X) Q) -∗ runs c (.op (.load m (Rect.unit (s := s) off s.size inb).toLoadRect hl) k) Q) := by
  unfold ownsTc owns
  iintro ⟨%f, %hf, H⟩ Hk
  iapply (wp_load_rect 𝒱₀ (c.tc : Thread nD τ) none Set.univ (m := m) (r := Rect.unit (s := s) off s.size inb) (View.set_slice_subset _ _)) $$ H
  iintro H
  rw [show (m.access (Rect.unit (s := s) off s.size inb)).read (Elt F) f = X from funext fun x => (congrArg (m.view.read (Elt F) f) (unit_emb hz inb x)).trans (congrFun hf x)]
  iapply Hk
  iexists f
  isplitr; · ipureintro; exact hf
  iexact H

/-- A load of everything a memref addresses, whatever is there, and the store of a new block over it. -/
theorem runs_loadStoreAll (m : Memref sig .tc .vmem s e) {off : Fin s.rank → ℕ} (hz : off = fun _ => 0) (inb : ∀ a, off a + s.size a ≤ s.size a) {w : s.Idx → Elt F e}
    {hl : m.view.LoadsAt (Rect.unit (s := s) off s.size inb).toLoadRect} {hx : (m.access (Rect.unit (s := s) off s.size inb)).Stores Finset.univ} {hm} {k : PUnit → TcProg F α} :
    (free c m : sProp 𝕄) ⊢ iprop((ownsTc c m fullShare w -∗ runs c (k ⟨⟩) Q)
      -∗ runs c (.op (.load m (Rect.unit (s := s) off s.size inb).toLoadRect hl) fun _ => .op (.store m (Rect.unit (s := s) off s.size inb) w Finset.univ hx hm) k) Q) := by
  unfold free
  iintro ⟨%X, H⟩ Hk
  iapply (runs_loadAll c m hz inb) $$ H
  unfold ownsTc owns
  iintro ⟨%f, %hf, H⟩
  iapply (wp_store 𝒱₀ (c.tc : Thread nD τ) none Set.univ (m := m) (r := Rect.unit (s := s) off s.size inb) (Mk := Finset.univ) (by rw [View.setOn_univ]; exact View.set_slice_subset _ _)) $$ H
  iintro H
  iapply Hk
  iexists (m.access (Rect.unit (s := s) off s.size inb)).write (Elt F) f w Finset.univ
  isplitr
  · ipureintro
    funext x
    have h := congrFun (View.read_write_univ (v := m.access (Rect.unit (s := s) off s.size inb)) f w) x
    exact (congrArg (m.view.read (Elt F) _) (unit_emb hz inb x)).symm.trans h
  iexact H
end Generic

/-! ## The blocks by rows -/

section Rows
variable (c d : Dev nD) {α : Type} {Q : α → sProp (MM F)} {off : Fin 2 → ℕ}

theorem runs_loadRow (M : Memref sig .tc .vmem S512x512 .bf16) (ho : off = ![32 * d.val, 0]) (inb : ∀ a, off a + S32x512.size a ≤ S512x512.size a) {q : PosShare TreeShare} {X : Vec F S32x512 .bf16}
    {hl : M.view.LoadsAt (Rect.unit (s := S512x512) off S32x512.size inb).toLoadRect} {k : Vec F S32x512 .bf16 → TcProg F α} :
    (ownsTc c (rowM M d) q X : sProp 𝕄)
      ⊢ iprop((ownsTc c (rowM M d) q X -∗ runs c (k X) Q) -∗ runs c (.op (.load M (Rect.unit (s := S512x512) off S32x512.size inb).toLoadRect hl) k) Q) := by
  subst ho; exact runs_load c M (rowR d) (fun _ => rfl)

/-- Read a row block, whatever is there, and write a new one. -/
theorem runs_putRow (M : Memref sig .tc .vmem S512x512 .bf16) (ho : off = ![32 * d.val, 0]) (inb inb' : ∀ a, off a + S32x512.size a ≤ S512x512.size a) {w : Vec F S32x512 .bf16}
    {hl : M.view.LoadsAt (Rect.unit (s := S512x512) off S32x512.size inb).toLoadRect} {hx : (M.access (Rect.unit (s := S512x512) off S32x512.size inb')).Stores Finset.univ} {hm}
    {k : PUnit → TcProg F α} :
    (free c (rowM M d) : sProp 𝕄) ⊢ iprop((ownsTc c (rowM M d) fullShare w -∗ runs c (k ⟨⟩) Q)
      -∗ runs c (.op (.load M (Rect.unit (s := S512x512) off S32x512.size inb).toLoadRect hl) fun _ => .op (.store M (Rect.unit (s := S512x512) off S32x512.size inb') w Finset.univ hx hm) k) Q) := by
  subst ho
  iintro H Hk
  ihave ⟨%X, H⟩ := (Entails.of_eq (show (free c (rowM M d) : sProp 𝕄) = iprop(∃ X, ownsTc c (rowM M d) fullShare X) from rfl)) $$ H
  iapply (runs_load c M (rowR d) (fun _ => rfl)) $$ H
  iintro H
  iapply (runs_store c M (rowR d) (fun _ => rfl)) $$ [H]
  · iapply (owns_free c _ X); iexact H
  iexact Hk

theorem runs_putOut (ho : off = ![32 * d.val, 0]) (inb inb' : ∀ a, off a + S32x256.size a ≤ S512x256.size a) {w : Vec F S32x256 .f32}
    {hl : Om.view.LoadsAt (Rect.unit (s := S512x256) off S32x256.size inb).toLoadRect} {hx : (Om.access (Rect.unit (s := S512x256) off S32x256.size inb')).Stores Finset.univ} {hm}
    {k : PUnit → TcProg F α} :
    (free c (rowO d) : sProp 𝕄) ⊢ iprop((ownsTc c (rowO d) fullShare w -∗ runs c (k ⟨⟩) Q)
      -∗ runs c (.op (.load Om (Rect.unit (s := S512x256) off S32x256.size inb).toLoadRect hl) fun _ => .op (.store Om (Rect.unit (s := S512x256) off S32x256.size inb') w Finset.univ hx hm) k) Q) := by
  subst ho
  iintro H Hk
  ihave ⟨%X, H⟩ := (Entails.of_eq (show (free c (rowO d) : sProp 𝕄) = iprop(∃ X, ownsTc c (rowO d) fullShare X) from rfl)) $$ H
  iapply (runs_load c Om (rowOR d) (fun _ => rfl)) $$ H
  iintro H
  iapply (runs_store c Om (rowOR d) (fun _ => rfl)) $$ [H]
  · iapply (owns_free c _ X); iexact H
  iexact Hk
end Rows

/-- A load of a receive slot: the block there, behind a leading axis of extent one. -/
theorem runs_loadSlot (c : Dev nD) (j : Fin 16) {α : Type} {Q : α → sProp 𝕄} {q : PosShare TreeShare} {X : Vec F S32x512 .bf16}
    {hl : Rm.view.LoadsAt (Rect.unit (s := S16x32x512) ![j.val, 0, 0] S1x32x512.size (slot_inb j)).toLoadRect} {k : Vec F S1x32x512 .bf16 → TcProg F α} :
    (ownsTc c (slotOf Rm j) q X : sProp 𝕄) ⊢ iprop((∀ v : Vec F S1x32x512 .bf16, ⌜shapeCast S32x512 v shapeCasts_S1x32x512_S32x512 = X⌝ -∗ ownsTc c (slotOf Rm j) q X -∗ runs c (k v) Q)
      -∗ runs c (.op (.load Rm (Rect.unit (s := S16x32x512) ![j.val, 0, 0] S1x32x512.size (slot_inb j)).toLoadRect hl) k) Q) := by
  unfold ownsTc owns
  iintro ⟨%f, %hf, H⟩ Hk
  iapply (wp_load_rect 𝒱₀ (c.tc : Thread nD τ) none Set.univ (m := Rm) (r := Rect.unit (s := S16x32x512) ![j.val, 0, 0] S1x32x512.size (slot_inb j)) (by
    rw [show (slotOf Rm j).view.set = _ from View.set_reshape _ _])) $$ H
  iintro H
  iapply Hk $$ [] [H]
  · ipureintro; exact hf
  · iexists f
    isplitr; · ipureintro; exact hf
    iexact H

/-! ## The sends -/

variable (V : Blocks F) (K : Dev nD × Option (Fin 4 × Fin 16) → ℕ)

/-- A partial product's send: the peer's slot is written; its rows come back when the send is done. -/
theorem runs_sendA (c : Dev nD) {j : Fin 16} (hj : j ≠ 0) {r : ℕ} (hr : r < 3) (O : CellTallies nD τ sig ℕ)
    {src : Memref sig .tc .vmem S32x512 .bf16} (hsrc : src = rowM Pm (peer c j)) {n : Dev nD} (hn : n = peer c j) {sS sR : DmaSem sig} (hS : sS = dsem 0 j) (hR : sR = dsem 1 (-j))
    {h₁ h₂ h₃} {α : Type} {k : PUnit → TcProg F α} {Q : α → sProp 𝕄} :
    iprop(know V K ∗ ownsTc c (rowM Pm (peer c j)) fullShare (V.part r c (peer c j)) ∗ free (peer c j) (slotOf Rm (-j)) ∗ extraA V (peer c j) (-j) r
        ∗ dutyTok ER (xC c 0 j) r 0 ∗ reached ER (xC c 0 j) r ∗ dutyTok ER (xC (peer c j) 1 (-j)) r 0 ∗ reached ER (xC (peer c j) 1 (-j)) r
        ∗ owing c (O + tallyAt (xC (peer c j) 1 (-j)) r N))
      ⊢ iprop((cred (tallyAt (xC c 0 j) r N) ∗ owing c O -∗ runs c (k ⟨⟩) Q)
        -∗ runs c (.op (.enqueueDma src (.remote (Dev.tc n) (slotOf Rm (-j)) (.dma sS)) (.dma sR) h₁ h₂ h₃) k) Q) := by
  subst hsrc hn hS hR
  unfold free owing ownsTc owns
  iintro ⟨#HK, ⟨%fs, %hfs, Hs⟩, ⟨%X, %fd, %hfd, Hd⟩, HF, Ht, Hr, Ht', Hr', ⟨%W, HO⟩⟩ Hk
  iapply (Rounds.wp_send_pointsTo_with 𝒱₀ ER (Rd V) (c.tc : Thread nD τ) none (κ₁ := K (c, some (0, j))) (κ₂ := K (peer c j, some (1, -j)))
    (r₁ := r) (r₂ := r) (d₁ := 0) (d₂ := 0) (fd := fd) (F := extraA V (peer c j) (-j) r)
    (mem_duties_x V c 0 hj hr) (mem_duties_x V (peer c j) 1 (neg_ne hj) hr) r r N (amount_slot (-j) _) (amount_x V c 0 j r 0) (amount_x V (peer c j) 1 (-j) r 0) O rfl (W := W)
    (by
      rw [show (Rd V).payload (c.tc, SemLoc.dma (dsem 0 j)) r 0 = _ from payload_cell V c (some (0, j)) r 0]
      show _ ⊢ free c (rowM Pm (peer c j))
      exact BIBase.Entails.trans (owns_reads c (rowM Pm (peer c j)) fullShare fs hfs) (owns_free c (rowM Pm (peer c j)) _))
    (by
      rw [show (Rd V).payload ((peer c j).tc, SemLoc.dma (dsem 1 (-j))) r 0 = _ from payload_cell V (peer c j) (some (1, -j)) r 0]
      show _ ⊢ payA V (peer c j) (-j) r
      rw [payA_peer, hfs]
      exact Laws.sep_mono (owns_landed (peer c j) (slotOf Rm (-j)) fullShare fd _) .rfl)) $$ [Hs Hd HF Ht Hr Ht' Hr' HO]
  · isplitr; · iapply (know_inv V K c (some (0, j))); iexact HK
    isplitr; · iapply (know_inv V K (peer c j) (some (1, -j))); iexact HK
    isplitl [Hs]; · iexact Hs
    isplitl [Hd HF]
    · isplitl [Hd] <;> iassumption
    isplitl [HO]; · iexact HO
    isplitl [Ht]; · iexact Ht
    isplitl [Hr]; · iexact Hr
    isplitl [Ht'] <;> iassumption
  iintro ⟨Hc, HO⟩
  iapply Hk
  isplitl [Hc]; · iexact Hc
  iexists W; iexact HO

/-- What a send of hidden rows carries beside them. -/
def carryB (c : Dev nD) (j : Fin 16) (r : ℕ) : sProp (MM F) := if r < 2 then iprop(free c (slotOf Rm j) ∗ reached ER (xC c 1 j) (r + 1)) else iprop(emp)

/-- A send of hidden rows: the peer's copy is written; before the last layer the share of the rows it reads goes with them. -/
theorem runs_sendB (c : Dev nD) {j : Fin 16} (hj : j ≠ 0) {r : ℕ} (hr : r < 3) (O : CellTallies nD τ sig ℕ)
    {src : Memref sig .tc .vmem S32x512 .bf16} (hsrc : src = rowM Hm c) {n : Dev nD} (hn : n = peer c j) {sS sR : DmaSem sig} (hS : sS = dsem 2 j) (hR : sR = dsem 3 (-j))
    {h₁ h₂ h₃} {α : Type} {k : PUnit → TcProg F α} {Q : α → sProp 𝕄} :
    iprop(know V K ∗ ownsTc c (rowM Hm c) (tok j) (V.hid r c) ∗ free (peer c j) (rowM Hm c) ∗ carryB c j r
        ∗ dutyTok ER (xC c 2 j) r 0 ∗ reached ER (xC c 2 j) r ∗ dutyTok ER (xC (peer c j) 3 (-j)) r 0 ∗ reached ER (xC (peer c j) 3 (-j)) r
        ∗ owing c (O + tallyAt (xC (peer c j) 3 (-j)) r N))
      ⊢ iprop((cred (tallyAt (xC c 2 j) r N) ∗ owing c O -∗ runs c (k ⟨⟩) Q)
        -∗ runs c (.op (.enqueueDma src (.remote (Dev.tc n) src (.dma sS)) (.dma sR) h₁ h₂ h₃) k) Q) := by
  subst hsrc hn hS hR
  have hp₁ : (Rd V).payload (c.tc, SemLoc.dma (dsem 2 j)) r 0 = backB V c j r := payload_cell V c (some (2, j)) r 0
  have hp₂ : (Rd V).payload ((peer c j).tc, SemLoc.dma (dsem 3 (-j))) r 0 = payB V (peer c j) (-j) r := payload_cell V (peer c j) (some (3, -j)) r 0
  unfold free owing ownsTc owns
  iintro ⟨#HK, ⟨%fs, %hfs, Hs⟩, ⟨%X, %fd, %hfd, Hd⟩, HF, Ht, Hr, Ht', Hr', ⟨%W, HO⟩⟩ Hk
  have hland : (((rowM Hm c).view.loc (peer c j).tc ↦[(rowM Hm c).view.set]{fullShare} ((rowM Hm c).view.write (Elt F) fd ((rowM Hm c).view.read (Elt F) fs) Finset.univ)) : sProp 𝕄)
      ⊢ ownsTc (peer c j) (rowM Hm c) fullShare (V.hid r c) := by
    rw [hfs]; exact owns_landed (peer c j) (rowM Hm c) fullShare fd _
  have hback : (((rowM Hm c).view.loc c.tc ↦[(rowM Hm c).view.set]{tok j} fs) : sProp 𝕄) ⊢ ownsTc c (rowM Hm c) (tok j) (V.hid r c) :=
    owns_reads c (rowM Hm c) (tok j) fs hfs
  by_cases h2 : r < 2
  · iapply (Rounds.wp_send_landing_pointsTo_with 𝒱₀ ER (Rd V) (c.tc : Thread nD τ) none (κ₁ := K (c, some (2, j))) (κ₂ := K (peer c j, some (3, -j)))
      (r₁ := r) (r₂ := r) (d₁ := 0) (d₂ := 0) (fd := fd) (F := carryB c j r)
      (mem_duties_x V c 2 hj hr) (mem_duties_x V (peer c j) 3 (neg_ne hj) hr) r r N (amount_row_H c _) (amount_x V c 2 j r 0) (amount_x V (peer c j) 3 (-j) r 0) O rfl (W := W)
      (by rw [hp₁]; unfold backB; rw [if_pos h2])
      (by
        rw [hp₂, payB_peer, if_pos h2, extraB_peer]
        unfold carryB
        rw [if_pos h2]
        iintro ⟨⟨H1, H2⟩, H3⟩
        isplitl [H1]; · iapply hland; iexact H1
        isplitl [H2]; · iexact H2
        iapply hback; iexact H3)) $$ [Hs Hd HF Ht Hr Ht' Hr' HO]
    · isplitr; · iapply (know_inv V K c (some (2, j))); iexact HK
      isplitr; · iapply (know_inv V K (peer c j) (some (3, -j))); iexact HK
      isplitl [Hs]; · iexact Hs
      isplitl [Hd HF]
      · isplitl [Hd] <;> iassumption
      isplitl [HO]; · iexact HO
      isplitl [Ht]; · iexact Ht
      isplitl [Hr]; · iexact Hr
      isplitl [Ht'] <;> iassumption
    iintro ⟨Hc, HO⟩
    iapply Hk
    isplitl [Hc]; · iexact Hc
    iexists W; iexact HO
  · iapply (Rounds.wp_send_pointsTo_with 𝒱₀ ER (Rd V) (c.tc : Thread nD τ) none (κ₁ := K (c, some (2, j))) (κ₂ := K (peer c j, some (3, -j)))
      (r₁ := r) (r₂ := r) (d₁ := 0) (d₂ := 0) (fd := fd) (F := carryB c j r)
      (mem_duties_x V c 2 hj hr) (mem_duties_x V (peer c j) 3 (neg_ne hj) hr) r r N (amount_row_H c _) (amount_x V c 2 j r 0) (amount_x V (peer c j) 3 (-j) r 0) O rfl (W := W)
      (by rw [hp₁]; unfold backB; rw [if_neg h2]; exact hback)
      (by
        rw [hp₂, payB_peer, if_neg h2]
        unfold carryB
        rw [if_neg h2]
        exact Laws.sep_mono hland .rfl)) $$ [Hs Hd HF Ht Hr Ht' Hr' HO]
    · isplitr; · iapply (know_inv V K c (some (2, j))); iexact HK
      isplitr; · iapply (know_inv V K (peer c j) (some (3, -j))); iexact HK
      isplitl [Hs]; · iexact Hs
      isplitl [Hd HF]
      · isplitl [Hd] <;> iassumption
      isplitl [HO]; · iexact HO
      isplitl [Ht]; · iexact Ht
      isplitl [Hr]; · iexact Hr
      isplitl [Ht'] <;> iassumption
    iintro ⟨Hc, HO⟩
    iapply Hk
    isplitl [Hc]; · iexact Hc
    iexists W; iexact HO

end Cert.Mlp

end
-- ==== Proof.Steps.lean ====
/-
  One step of each of the kernel's loops.
-/
module

public import proofs.«01_k».proof.Proof.Memory

@[expose] public section

noncomputable section

namespace Cert.Mlp

open Cert.KernelIdeal Cert.KernelIdeal.Gen Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What a device holds for one peer -/

/-- The right to make one round's send of partial products, and of hidden rows. -/
def toksA (c : Dev nD) (r : ℕ) (j : Fin 16) : sProp (MM F) := iprop(dutyTok ER (xC c 0 j) r 0 ∗ dutyTok ER (xC (peer c j) 1 (-j)) r 0)
def toksB (c : Dev nD) (r : ℕ) (j : Fin 16) : sProp (MM F) := iprop(dutyTok ER (xC c 2 j) r 0 ∗ dutyTok ER (xC (peer c j) 3 (-j)) r 0)
/-- Round `r` of its cell of kind `q` is the next it waits for. -/
def upto (q : Fin 4) (c : Dev nD) (r : ℕ) (j : Fin 16) : sProp (MM F) := atPos ER (xC c q j) r ∅ 0
/-- Round `r` of the cell will be paid. -/
def paid (q : Fin 4) (c : Dev nD) (r : ℕ) (j : Fin 16) : sProp (MM F) := cred (tallyAt (xC c q j) r N)
/-- Round `r` of the cell has begun. -/
def begun (q : Fin 4) (c : Dev nD) (r : ℕ) (j : Fin 16) : sProp (MM F) := reached ER (xC c q j) r
instance begun_persistent (q : Fin 4) (c : Dev nD) (r : ℕ) (j : Fin 16) : BI.Persistent (begun (F := F) q c r j) := by unfold begun; infer_instance

theorem op_bind {β α α' : Type} (e : TpuEff nD τ sig (Elt F) Λ₀ .tc β) (p : β → TcProg F α) (k : α → TcProg F α') : (Prog.op e p).bind k = .op e fun x => (p x).bind k := rfl

variable (V : Blocks F) (K : Dev nD × Option (Fin 4 × Fin 16) → ℕ)

theorem dma_rowsTo_P (c : Dev nD) (j : Fin 16) : (rowsTo Pm c j).view.dmaCredit = N := rfl
theorem dma_rowsTo_H (c : Dev nD) (j : Fin 16) : (rowsTo Hm c j).view.dmaCredit = N := rfl
theorem dma_rowsOwn_H (c : Dev nD) : (rowsOwn Hm c).view.dmaCredit = N := rfl
theorem dma_slot (j : Fin 16) : (slotOf Rm j).view.dmaCredit = N := rfl

abbrev isW (b : Ref sig .tc) : (Memref.whole b).IsWhole := Memref.isWhole_whole b

/-! ## The sends -/

theorem step_sendA (c : Dev nD) {j : Fin 16} (hj : j ≠ 0) {r : ℕ} (hr : r < 3) (T : CellTallies nD τ sig ℕ) (l : List (Fin 16)) :
    iprop(know V K ∗ (toksA c r j ∗ begun 0 c r j ∗ begun 1 (peer c j) r (-j) ∗ ownsTc c (rowM Pm (peer c j)) fullShare (V.part r c (peer c j))
        ∗ free (peer c j) (slotOf Rm (-j)) ∗ extraA V (peer c j) (-j) r) ∗ owing c (owedX c (2 * r) (j :: l) + T))
      ⊢ runs c (sendA Pm (isW cc0_scratch0) Rm (isW cc0_scratch1) cc0_scratch3 cc0_scratch4 c j) (fun _ => iprop(paid 0 c r j ∗ owing c (owedX c (2 * r) l + T))) := by
  unfold sendA toksA begun paid
  rw [show owedX c (2 * r) (j :: l) + T = (owedX c (2 * r) l + T) + tallyAt (xC (peer c j) 1 (-j)) r N by
    show owedX c (2 * r) l + tallyAt (xC (peer c j) (stq (2 * r)) (-j)) (2 * r / 2) N + T = _
    rw [stq_even, show 2 * r / 2 = r by omega, add_right_comm]]
  iintro ⟨#HK, ⟨⟨Ht, Ht'⟩, Hr, Hr', Hs, Hd, HF⟩, HO⟩
  iapply (runs_sendA V K c hj hr (owedX c (2 * r) l + T) (rowsTo_eq Pm c j) (dev_eq c j) (semAt_0 j) (semAt_1 (-j))) $$ [Ht Ht' Hr Hr' Hs Hd HF HO]
  · isplitr; · iexact HK
    isplitl [Hs]; · iexact Hs
    isplitl [Hd]; · iexact Hd
    isplitl [HF]; · iexact HF
    isplitl [Ht]; · iexact Ht
    isplitl [Hr]; · iexact Hr
    isplitl [Ht']; · iexact Ht'
    isplitl [Hr'] <;> iassumption
  iintro H
  iapply (runs_ret c (F := F)); iexact H

theorem step_sendB (c : Dev nD) {j : Fin 16} (hj : j ≠ 0) {r : ℕ} (hr : r < 3) (T : CellTallies nD τ sig ℕ) (l : List (Fin 16)) :
    iprop(know V K ∗ (toksB c r j ∗ begun 2 c r j ∗ begun 3 (peer c j) r (-j) ∗ ownsTc c (rowM Hm c) (tok j) (V.hid r c)
        ∗ free (peer c j) (rowM Hm c) ∗ carryB c j r) ∗ owing c (owedX c (2 * r + 1) (j :: l) + T))
      ⊢ runs c (sendB Hm (isW cc0_scratch2) cc0_scratch5 cc0_scratch6 c j) (fun _ => iprop(paid 2 c r j ∗ owing c (owedX c (2 * r + 1) l + T))) := by
  unfold sendB toksB begun paid
  rw [show owedX c (2 * r + 1) (j :: l) + T = (owedX c (2 * r + 1) l + T) + tallyAt (xC (peer c j) 3 (-j)) r N by
    show owedX c (2 * r + 1) l + tallyAt (xC (peer c j) (stq (2 * r + 1)) (-j)) ((2 * r + 1) / 2) N + T = _
    rw [stq_odd, show (2 * r + 1) / 2 = r by omega, add_right_comm]]
  iintro ⟨#HK, ⟨⟨Ht, Ht'⟩, Hr, Hr', Hs, Hd, HF⟩, HO⟩
  iapply (runs_sendB V K c hj hr (owedX c (2 * r + 1) l + T) (rowsOwn_eq Hm c) (dev_eq c j) (semAt_2 j) (semAt_3 (-j))) $$ [Ht Ht' Hr Hr' Hs Hd HF HO]
  · isplitr; · iexact HK
    isplitl [Hs]; · iexact Hs
    isplitl [Hd]; · iexact Hd
    isplitl [HF]; · iexact HF
    isplitl [Ht]; · iexact Ht
    isplitl [Hr]; · iexact Hr
    isplitl [Ht']; · iexact Ht'
    isplitl [Hr'] <;> iassumption
  iintro H
  iapply (runs_ret c (F := F)); iexact H

/-! ## The receipts -/

/-- One term of the sum over the peers. -/
def addBlock (a : FVec F S32x512 .f32) (X : FVec F S32x512 .bf16) : FVec F S32x512 .f32 := addf a (extf .f32 X bitsLt_bf16_f32)

theorem step_recvA (c : Dev nD) {j : Fin 16} (hj : j ≠ 0) {r : ℕ} (hr : r < 3) {O : CellTallies nD τ sig ℕ} (hO : Above (2 + 2 * r) O) (A : FVec F S32x512 .f32)
    (l : List (Fin 16)) (a : FVec F S32x512 .f32) :
    iprop(know V K ∗ (upto 1 c r j ∗ paid 1 c r j) ∗ (⌜(j :: l).foldl (fun a j => addBlock a (V.part r (peer c j) c)) a = A⌝ ∗ owing c O))
      ⊢ runs c (recvA Rm (isW cc0_scratch1) cc0_scratch4 j a) (fun a' => iprop((upto 1 c (r + 1) j ∗ begun 1 c (r + 1) j ∗ payA V c j r)
        ∗ (⌜l.foldl (fun a j => addBlock a (V.part r (peer c j) c)) a' = A⌝ ∗ owing c O))) := by
  unfold recvA upto paid begun payA
  iintro ⟨#HK, ⟨Hat, Hc⟩, %hA, HO⟩
  iapply (runs_waitX V K c 1 hj hr (n := 2 + 2 * r) (le_of_eq ((lv_x c 1 j r).trans (if_pos rfl))) hO (semAt_1 j) (dma_slot j)) $$ [Hat Hc HO]
  · isplitr; · iexact HK
    isplitl [Hc]; · iexact Hc
    isplitl [HO] <;> iassumption
  rw [show payOf V c r 0 (some (1, j)) = iprop(ownsTc c (slotOf Rm j) fullShare (V.part r (peer c j) c) ∗ extraA V c j r) from rfl]
  iintro ⟨HO, Hat, Hr, Hs, HF⟩
  iapply (runs_loadSlot c j) $$ Hs
  iintro %v %hv Hs
  iapply (runs_ret c (F := F))
  isplitl [Hat Hr Hs HF]
  · isplitl [Hat]; · iexact Hat
    isplitl [Hr]; · iexact Hr
    isplitl [Hs] <;> iassumption
  isplitr
  · ipureintro; rw [← hA, List.foldl_cons, show addSlot a v = addBlock a (V.part r (peer c j) c) by unfold addSlot addBlock; rw [hv]]
  iexact HO

theorem step_doneB (c : Dev nD) {j : Fin 16} (hj : j ≠ 0) {r : ℕ} (hr : r < 3) {O : CellTallies nD τ sig ℕ} (hO : Above 0 O) (u : Unit) :
    iprop(know V K ∗ (upto 2 c r j ∗ paid 2 c r j) ∗ owing c O)
      ⊢ runs c (doneB Hm (isW cc0_scratch2) cc0_scratch5 c j) (fun _ => iprop((upto 2 c (r + 1) j ∗ begun 2 c (r + 1) j ∗ backB V c j r) ∗ owing c O)) := by
  unfold doneB upto paid begun
  iintro ⟨#HK, ⟨Hat, Hc⟩, HO⟩
  iapply (runs_waitX V K c 2 hj hr (n := 0) (le_of_eq ((lv_x c 2 j r).trans rfl)) hO (semAt_2 j) (dma_rowsOwn_H c)) $$ [Hat Hc HO]
  · isplitr; · iexact HK
    isplitl [Hc]; · iexact Hc
    isplitl [HO] <;> iassumption
  rw [show payOf V c r 0 (some (2, j)) = backB V c j r from rfl]
  iintro ⟨HO, Hat, Hr, Hp⟩
  iapply (runs_ret c (F := F))
  isplitr [HO]
  · isplitl [Hat]; · iexact Hat
    isplitl [Hr]; · iexact Hr
    iexact Hp
  iexact HO

/-- Receiving a peer's hidden rows, and the rows this device sent it back. -/
theorem runs_recvB (c : Dev nD) {j : Fin 16} (hj : j ≠ 0) {r : ℕ} (hr : r < 3) {O : CellTallies nD τ sig ℕ} (hO : Above (3 + 2 * r) O) {α : Type} {k : Vec F S32x512 .bf16 → TcProg F α} {Q : α → sProp 𝕄} :
    iprop(know V K ∗ (upto 3 c r j ∗ paid 3 c r j ∗ upto 0 c r j ∗ paid 0 c r j) ∗ owing c O)
      ⊢ iprop((upto 3 c (r + 1) j ∗ begun 3 c (r + 1) j ∗ upto 0 c (r + 1) j ∗ begun 0 c (r + 1) j ∗ payB V c j r ∗ free c (rowM Pm (peer c j)) ∗ owing c O
          -∗ runs c (k (V.hid r (peer c j))) Q)
        -∗ runs c ((recvB Pm (isW cc0_scratch0) Rm (isW cc0_scratch1) Hm (isW cc0_scratch2) cc0_scratch3 cc0_scratch6 c j).bind k) Q) := by
  unfold recvB upto paid begun
  rw [op_bind]
  iintro ⟨#HK, ⟨Hat, Hc, Hat0, Hc0⟩, HO⟩ Hk
  iapply (runs_waitX V K c 3 hj hr (n := 3 + 2 * r) (le_of_eq ((lv_x c 3 j r).trans rfl)) hO (semAt_3 j) (dma_rowsTo_H c j)) $$ [Hat Hc HO]
  · isplitr; · iexact HK
    isplitl [Hc]; · iexact Hc
    isplitl [HO] <;> iassumption
  rw [show payOf V c r 0 (some (3, j)) = payB V c j r from rfl]
  unfold payB
  iintro ⟨HO, Hat, Hr, Hh, HF⟩
  rw [op_bind]
  iapply (runs_loadRow c (peer c j) Hm (off4_peer c j) _) $$ Hh
  iintro Hh
  rw [op_bind]
  iapply (runs_waitX V K c 0 hj hr (n := 3 + 2 * r) (le_trans (le_of_eq ((lv_x c 0 j r).trans rfl)) (Nat.zero_le _)) hO (semAt_0 j) (dma_rowsTo_P c j)) $$ [Hat0 Hc0 HO]
  · isplitr; · iexact HK
    isplitl [Hc0]; · iexact Hc0
    isplitl [HO] <;> iassumption
  rw [show payOf V c r 0 (some (0, j)) = free c (rowM Pm (peer c j)) from rfl]
  iintro ⟨HO, Hat0, Hr0, Hp⟩
  iapply Hk
  isplitl [Hat]; · iexact Hat
  isplitl [Hr]; · iexact Hr
  isplitl [Hat0]; · iexact Hat0
  isplitl [Hr0]; · iexact Hr0
  isplitl [Hh HF]
  · isplitl [Hh] <;> iassumption
  isplitl [Hp] <;> iassumption

/-! ## The loops that receive hidden rows -/

theorem step_nextA (c : Dev nD) {j : Fin 16} (hj : j ≠ 0) {r : ℕ} (hr : r < 2) {T : CellTallies nD τ sig ℕ} (hT : Above (3 + 2 * r) T) (l : List (Fin 16))
    (wo : FVec F S512x256 .bf16) (wi : FVec F S256x512 .bf16) (hV : V.part (r + 1) c (peer c j) = k0_pay13 wo wi (V.hid r (peer c j))) (u : Unit) :
    iprop(know V K ∗ ((upto 3 c r j ∗ paid 3 c r j ∗ upto 0 c r j ∗ paid 0 c r j) ∗ toksA c (r + 1) j) ∗ owing c (owedX c (2 * (r + 1)) (j :: l) + T))
      ⊢ runs c (nextA Pm (isW cc0_scratch0) Rm (isW cc0_scratch1) Hm (isW cc0_scratch2) cc0_scratch3 cc0_scratch4 cc0_scratch6 c wo wi j u)
        (fun _ => iprop((upto 3 c (r + 1) j ∗ upto 0 c (r + 1) j ∗ paid 0 c (r + 1) j) ∗ owing c (owedX c (2 * (r + 1)) l + T))) := by
  unfold nextA
  iintro ⟨#HK, ⟨H, Ht⟩, HO⟩
  iapply (runs_recvB V K c hj (r := r) (by omega) (O := owedX c (2 * (r + 1)) (j :: l) + T) (Above.add (above_owedX c (by omega) (by omega) (j :: l)) hT)) $$ [H HO]
  · isplitr; · iexact HK
    isplitl [H] <;> iassumption
  iintro ⟨Hat, #Hr, Hat0, #Hr0, HpB, Hrow, HO⟩
  iapply (runs_putRow c (peer c j) Pm (off4_peer c j) _ _) $$ Hrow
  iintro Hrow
  unfold payB
  rw [if_pos hr]
  unfold extraB
  icases HpB with ⟨Hh, ⟨Hslot, Hr1⟩, Htok⟩
  iapply (runs_frame c (step_sendA V K c hj (r := r + 1) (by omega) T l)) $$ [Ht Hrow Hh Hslot Hr1 Htok HO]
  · isplitr; · iexact HK
    isplitr [HO]
    · isplitl [Ht]; · iexact Ht
      isplitr; · iexact Hr0
      isplitl [Hr1]; · unfold begun; iexact Hr1
      isplitl [Hrow]; · rw [hV]; iexact Hrow
      isplitl [Hslot]; · iexact Hslot
      rw [extraA_peer]
      isplitl [Hh]; · iapply (owns_free c (rowM Hm (peer c j)) _); iexact Hh
      isplitl [Htok]; · iexact Htok
      unfold begun; iexact Hr
    · iexact HO
  iintro %_ ⟨Hp, HO⟩
  isplitr [HO]
  · isplitl [Hat]; · iexact Hat
    isplitl [Hat0] <;> iassumption
  iexact HO

theorem step_lastOut (c : Dev nD) {j : Fin 16} (hj : j ≠ 0) {O : CellTallies nD τ sig ℕ} (hO : Above 7 O) (wo : FVec F S512x256 .bf16) (u : Unit) :
    iprop(know V K ∗ ((upto 3 c 2 j ∗ paid 3 c 2 j ∗ upto 0 c 2 j ∗ paid 0 c 2 j) ∗ free c (rowO (peer c j))) ∗ owing c O)
      ⊢ runs c (lastOut Om Pm (isW cc0_scratch0) Rm (isW cc0_scratch1) Hm (isW cc0_scratch2) cc0_scratch3 cc0_scratch6 c wo j u)
        (fun _ => iprop((upto 3 c 3 j ∗ upto 0 c 3 j ∗ ownsTc c (rowO (peer c j)) fullShare (k0_pay78 wo (V.hid 2 (peer c j))) ∗ free c (rowM Pm (peer c j)) ∗ free c (rowM Hm (peer c j))) ∗ owing c O)) := by
  unfold lastOut
  iintro ⟨#HK, ⟨H, Hout⟩, HO⟩
  iapply (runs_recvB V K c hj (r := 2) (by omega) hO) $$ [H HO]
  · isplitr; · iexact HK
    isplitl [H] <;> iassumption
  iintro ⟨Hat, -, Hat0, -, HpB, Hrow, HO⟩
  iapply (runs_putOut c (peer c j) (off6_peer c j) _ _) $$ Hout
  iintro Hout
  unfold payB
  icases HpB with ⟨Hh, -⟩
  iapply (runs_ret c (F := F))
  isplitr [HO]
  · isplitl [Hat]; · iexact Hat
    isplitl [Hat0]; · iexact Hat0
    isplitl [Hout]; · iexact Hout
    isplitl [Hrow]; · iexact Hrow
    iapply (owns_free c (rowM Hm (peer c j)) _); iexact Hh
  iexact HO

/-- Putting this device's rows of the hidden layer in place. -/
theorem step_putH (c : Dev nD) (a : FVec F S32x512 .f32) :
    (free c (rowM Hm c) : sProp 𝕄) ⊢ runs c (putH Hm (isW cc0_scratch2) c a) (fun _ => ownsTc c (rowM Hm c) fullShare (narrow (relu a))) := by
  unfold putH
  iintro H
  iapply (runs_putRow c c Hm (k0_off2_eq c) _ _) $$ H
  iintro H
  iapply (runs_ret c (F := F)); iexact H

end Cert.Mlp

end
-- ==== Proof.Split.lean ====
/-
  Cutting the kernel's buffers into the blocks devices exchange, and putting them together again.
-/
module

public import proofs.«01_k».proof.Proof.Memory

@[expose] public section

noncomputable section

namespace Cert.Mlp

open Cert.KernelIdeal Cert.KernelIdeal.Gen Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

instance elt_nonempty (e : EltTy) : Nonempty (Elt F e) := by
  cases e <;> first | exact ⟨FloatOps.ofBits _ 0⟩ | exact ⟨(0 : BitVec _)⟩ | infer_instance

/-! ## A memref cut into a family of slices, each index in the slice its key names -/

section Family
variable {sp : Space} {s : Shape} {e : EltTy} (c : Dev nD) (M : Memref sig .tc sp s e) {T : Type} [Fintype T] [DecidableEq T] (r : T → Rect s) (hr : ∀ t a, (r t).stride a = 1)
  (key : s.Idx → T) (hk : ∀ t j, key ((r t).emb j) = t) (hc : ∀ i, ∃ j, (r (key i)).emb j = i)
include hk

theorem key_disjoint (t t' : T) (h : t ≠ t') : Disjoint (r t).set (r t').set := by
  rw [← Rect.map_emb_univ, ← Rect.map_emb_univ, Finset.disjoint_left]
  intro i hi hi'
  obtain ⟨j, -, rfl⟩ := Finset.mem_map.mp hi
  obtain ⟨j', -, hj'⟩ := Finset.mem_map.mp hi'
  exact h ((hk t j).symm.trans ((congrArg key hj'.symm).trans (hk t' j')))
include hc
theorem key_cover : (Finset.univ : Finset T).biUnion (fun t => (r t).set) = Finset.univ := by
  refine Finset.eq_univ_iff_forall.mpr fun i => Finset.mem_biUnion.mpr ⟨key i, Finset.mem_univ _, ?_⟩
  obtain ⟨j, hj⟩ := hc i
  rw [← Rect.map_emb_univ]
  exact Finset.mem_map.mpr ⟨j, Finset.mem_univ j, hj⟩

theorem cut (X : s.Idx → Elt F e) : (ownsTc c M fullShare X : sProp 𝕄) ⊢ bigSep Finset.univ fun t => ownsTc c (M.slice (r t) (hr t)) fullShare (fun j => X ((r t).emb j)) :=
  owns_rects (c.tc : Thread nD τ) M fullShare r hr (key_disjoint r key hk) (key_cover r key hk hc) X
theorem uncut (X : s.Idx → Elt F e) : bigSep Finset.univ (fun t => ownsTc c (M.slice (r t) (hr t)) fullShare (fun j => X ((r t).emb j))) ⊢ (ownsTc c M fullShare X : sProp 𝕄) :=
  owns_of_rects (c.tc : Thread nD τ) M fullShare r hr (key_disjoint r key hk) (key_cover r key hk hc) X
theorem cut_free : (free c M : sProp 𝕄) ⊢ bigSep Finset.univ fun t => free c (M.slice (r t) (hr t)) := by
  unfold free
  iintro ⟨%X, H⟩
  ihave H := (cut c M r hr key hk hc X) $$ H
  iapply (show (bigSep Finset.univ fun t => (ownsTc c (M.slice (r t) (hr t)) fullShare (fun j => X ((r t).emb j)) : sProp 𝕄))
    ⊢ bigSep Finset.univ fun t => iprop(∃ Y, ownsTc c (M.slice (r t) (hr t)) fullShare Y) from bigSep_mono fun t _ => owns_free c _ _)
  iexact H
theorem uncut_free : bigSep Finset.univ (fun t => free c (M.slice (r t) (hr t))) ⊢ (free c M : sProp 𝕄) := by
  unfold free
  haveI : ∀ t, Nonempty ((r t).shape.Idx → Elt F e) := fun t => ⟨fun _ => Classical.arbitrary _⟩
  iintro H
  ihave H := (bigSep_exists_pi Finset.univ fun t (Y : (r t).shape.Idx → Elt F e) => (ownsTc c (M.slice (r t) (hr t)) fullShare Y : sProp 𝕄)) $$ H
  icases H with ⟨%Y, H⟩
  iexists fun i => Y (key i) (hc i).choose
  iapply (uncut c M r hr key hk hc)
  have h (t : T) : (fun j => Y (key ((r t).emb j)) (hc ((r t).emb j)).choose) = Y t := funext fun j => by
    have h2 (t' : T) (ht : t' = t) (j' : (r t').shape.Idx) (he : (r t').emb j' = (r t).emb j) : Y t' j' = Y t j := by
      subst ht
      exact congrArg (Y t') ((r t').emb.injective he)
    exact h2 _ (hk t j) _ (hc ((r t).emb j)).choose_spec
  rw [bigSep_congr fun t _ => congrArg (fun Z => (ownsTc c (M.slice (r t) (hr t)) fullShare Z : sProp 𝕄)) (h t)]
  iexact H
end Family

/-! ## Shares of one block -/

section Shares
variable {s : Shape} {e : EltTy} (c : Dev nD) (M : Memref sig .tc .vmem s e)

theorem owns_at (q : PosShare TreeShare) {X : s.Idx → Elt F e} {f : M.view.ty.Contents (Elt F)} (hf : M.view.read (Elt F) f = X) :
    (ownsTc c M q X : sProp 𝕄) ⊢ (M.view.loc (c.tc : Thread nD τ) ↦[M.view.set]{q} f : sProp 𝕄) := by
  unfold ownsTc owns
  iintro ⟨%g, %hg, H⟩
  iapply (Entails.of_eq (show (M.view.loc (c.tc : Thread nD τ) ↦[M.view.set]{q} g : sProp 𝕄) = (M.view.loc (c.tc : Thread nD τ) ↦[M.view.set]{q} f) from
    pointsTo_congr fun i hi => by
      rw [View.set, Finset.mem_map] at hi
      obtain ⟨x, -, rfl⟩ := hi
      have h := congrFun (hg.trans hf.symm) x
      simp only [View.read] at h
      exact (cast_inj _).mp h))
  iexact H

/-- What stays of a device's ownership of its own rows while its peers read them. -/
def kept (X : s.Idx → Elt F e) : sProp 𝕄 := iprop(ownsTc c M (Transfers.shareDrop fullShare 16) X ∗ ownsTc c M (tok 0) X)

theorem deal (X : s.Idx → Elt F e) : (ownsTc c M fullShare X : sProp 𝕄) ⊢ iprop(kept c M X ∗ sepL (fun j => ownsTc c M (tok j) X) peers) := by
  iintro H
  ihave ⟨%f, %hf, H⟩ := (Entails.of_eq (show (ownsTc c M fullShare X : sProp 𝕄) = iprop(∃ f, ⌜M.view.read (Elt F) f = X⌝ ∗ (M.view.loc (c.tc : Thread nD τ) ↦[M.view.set]{fullShare} f)) from rfl)) $$ H
  ihave ⟨Hd, H⟩ := (Transfers.pointsTo_toks_split fullShare 16) $$ H
  ihave H := (show (bigSep Finset.univ fun j => (M.view.loc (c.tc : Thread nD τ) ↦[M.view.set]{tok j} f : sProp 𝕄)) ⊢ bigSep Finset.univ fun j => ownsTc c M (tok j) X
    from bigSep_mono fun j _ => owns_reads c M (tok j) f hf) $$ H
  ihave ⟨H0, H⟩ := (Entails.of_eq (bigSep_peers fun j => (ownsTc c M (tok j) X : sProp 𝕄))) $$ H
  unfold kept
  isplitr [H]
  · isplitl [Hd]
    · iapply (owns_reads c M _ f hf); iexact Hd
    · iexact H0
  · iexact H
theorem undeal (X : s.Idx → Elt F e) : iprop(kept c M X ∗ sepL (fun j => ownsTc c M (tok j) X) peers) ⊢ (ownsTc c M fullShare X : sProp 𝕄) := by
  unfold kept
  iintro ⟨⟨Hd, H0⟩, H⟩
  ihave ⟨%f, %hf, Hd⟩ := (Entails.of_eq (show (ownsTc c M (Transfers.shareDrop fullShare 16) X : sProp 𝕄)
    = iprop(∃ f, ⌜M.view.read (Elt F) f = X⌝ ∗ (M.view.loc (c.tc : Thread nD τ) ↦[M.view.set]{Transfers.shareDrop fullShare 16} f)) from rfl)) $$ Hd
  iapply (owns_reads c M fullShare f hf)
  iapply (Transfers.pointsTo_toks_join fullShare 16)
  isplitl [Hd]; · iexact Hd
  rw [bigSep_peers]
  isplitl [H0]
  · iapply (owns_at c M (tok 0) hf); iexact H0
  · iapply (sepL_mono peers fun j _ => owns_at c M (tok j) hf); iexact H
end Shares

/-! ## The kernel's buffers by rows and slots -/

/-- The row block an index of a 512-row array lies in. -/
abbrev rowKey {n : ℕ} (i : Shape.Idx ⟨2, ![512, n]⟩) : Dev nD := ⟨(i 0).val / 32, Nat.div_lt_of_lt_mul (i 0).isLt⟩

theorem rowR_key (d : Dev nD) (j : S32x512.Idx) : rowKey (n := 512) ((rowR d).emb j) = d := by
  have h : (j 0).val < 32 := (j 0).isLt
  refine Fin.ext ?_
  show (32 * d.val + 1 * (j 0).val) / 32 = d.val
  omega
theorem rowR_cov (i : S512x512.Idx) : ∃ j, (rowR (rowKey (n := 512) i)).emb j = i := by
  have h : (i 0).val < 512 := (i 0).isLt
  have h1 : (i 1).val < 512 := (i 1).isLt
  refine ⟨fun a => match a with | 0 => (⟨(i 0).val % 32, Nat.mod_lt _ (by decide)⟩ : Fin 32) | 1 => (⟨(i 1).val, h1⟩ : Fin 512), ?_⟩
  funext a
  match a with
  | 0 => exact Fin.ext (by show 32 * ((i 0).val / 32) + 1 * ((i 0).val % 32) = (i 0).val; omega)
  | 1 => exact Fin.ext (by show 0 + 1 * (i 1).val = (i 1).val; omega)
theorem rowOR_key (d : Dev nD) (j : S32x256.Idx) : rowKey (n := 256) ((rowOR d).emb j) = d := by
  have h : (j 0).val < 32 := (j 0).isLt
  refine Fin.ext ?_
  show (32 * d.val + 1 * (j 0).val) / 32 = d.val
  omega
theorem rowOR_cov (i : S512x256.Idx) : ∃ j, (rowOR (rowKey (n := 256) i)).emb j = i := by
  have h : (i 0).val < 512 := (i 0).isLt
  have h1 : (i 1).val < 256 := (i 1).isLt
  refine ⟨fun a => match a with | 0 => (⟨(i 0).val % 32, Nat.mod_lt _ (by decide)⟩ : Fin 32) | 1 => (⟨(i 1).val, h1⟩ : Fin 256), ?_⟩
  funext a
  match a with
  | 0 => exact Fin.ext (by show 32 * ((i 0).val / 32) + 1 * ((i 0).val % 32) = (i 0).val; omega)
  | 1 => exact Fin.ext (by show 0 + 1 * (i 1).val = (i 1).val; omega)
abbrev slotR (j : Fin 16) : Rect S16x32x512 := Rect.unit (s := S16x32x512) ![j.val, 0, 0] S1x32x512.size (slot_inb j)
abbrev slotKey (i : S16x32x512.Idx) : Fin 16 := i 0
theorem slotR_key (t : Fin 16) (j : S1x32x512.Idx) : slotKey ((slotR t).emb j) = t := by
  have h : (j 0).val < 1 := (j 0).isLt
  exact Fin.ext (by show t.val + 1 * (j 0).val = t.val; omega)
theorem slotR_cov (i : S16x32x512.Idx) : ∃ j, (slotR (slotKey i)).emb j = i := by
  have h : (i 0).val < 16 := (i 0).isLt
  have h1 : (i 1).val < 32 := (i 1).isLt
  have h2 : (i 2).val < 512 := (i 2).isLt
  refine ⟨fun a => match a with | 0 => (⟨0, by decide⟩ : Fin 1) | 1 => (⟨(i 1).val, h1⟩ : Fin 32) | 2 => (⟨(i 2).val, h2⟩ : Fin 512), ?_⟩
  funext a
  match a with
  | 0 => exact Fin.ext (by show (i 0).val + 1 * 0 = (i 0).val; omega)
  | 1 => exact Fin.ext (by show 0 + 1 * (i 1).val = (i 1).val; omega)
  | 2 => exact Fin.ext (by show 0 + 1 * (i 2).val = (i 2).val; omega)

/-- A family over the devices, from one device's own and its peers'. -/
theorem bigSep_around (c : Dev nD) (Φ : Dev nD → sProp (MM F)) : bigSep Finset.univ Φ = iprop(Φ c ∗ sepL (fun j => Φ (peer c j)) peers) := by
  rw [bigSep_univ_equiv (around c) Φ, bigSep_peers]
  show iprop(Φ (peer c 0) ∗ sepL (fun j => Φ (peer c j)) peers) = _
  rw [peer_zero]

variable (c : Dev nD)

theorem rows_out (M : Memref sig .tc .vmem S512x512 .bf16) (X : Vec F S512x512 .bf16) (p : Dev nD → FVec F S32x512 .bf16) (hp : ∀ d i, p d i = X ((rowR d).emb i)) :
    (ownsTc c M fullShare X : sProp 𝕄) ⊢ iprop(ownsTc c (rowM M c) fullShare (p c) ∗ sepL (fun j => ownsTc c (rowM M (peer c j)) fullShare (p (peer c j))) peers) := by
  obtain rfl : p = fun d i => X ((rowR d).emb i) := funext fun d => funext (hp d)
  exact (cut c M rowR (fun _ _ => rfl) (rowKey (n := 512)) rowR_key rowR_cov X).trans
    (Entails.of_eq (bigSep_around c fun d => ownsTc c (rowM M d) fullShare fun i => X ((rowR d).emb i)))
theorem rows_free (M : Memref sig .tc .vmem S512x512 .bf16) : (free c M : sProp 𝕄) ⊢ iprop(free c (rowM M c) ∗ sepL (fun j => free c (rowM M (peer c j))) peers) :=
  (cut_free c M rowR (fun _ _ => rfl) (rowKey (n := 512)) rowR_key rowR_cov).trans (Entails.of_eq (bigSep_around c fun d => free c (rowM M d)))
theorem rows_back (M : Memref sig .tc .vmem S512x512 .bf16) : iprop(free c (rowM M c) ∗ sepL (fun j => free c (rowM M (peer c j))) peers) ⊢ (free c M : sProp 𝕄) :=
  (Entails.of_eq (bigSep_around c fun d => free c (rowM M d)).symm).trans (uncut_free c M rowR (fun _ _ => rfl) (rowKey (n := 512)) rowR_key rowR_cov)
theorem out_free : (free c Om : sProp 𝕄) ⊢ iprop(free c (rowO c) ∗ sepL (fun j => free c (rowO (peer c j))) peers) :=
  (cut_free c Om rowOR (fun _ _ => rfl) (rowKey (n := 256)) rowOR_key rowOR_cov).trans (Entails.of_eq (bigSep_around c fun d => free c (rowO d)))
theorem out_back (X : Vec F S512x256 .f32) (p : Dev nD → FVec F S32x256 .f32) (hp : ∀ d i, p d i = X ((rowOR d).emb i)) :
    iprop(ownsTc c (rowO c) fullShare (p c) ∗ sepL (fun j => ownsTc c (rowO (peer c j)) fullShare (p (peer c j))) peers) ⊢ (ownsTc c Om fullShare X : sProp 𝕄) := by
  obtain rfl : p = fun d i => X ((rowOR d).emb i) := funext fun d => funext (hp d)
  exact (Entails.of_eq (bigSep_around c fun d => ownsTc c (rowO d) fullShare fun i => X ((rowOR d).emb i)).symm).trans
    (uncut c Om rowOR (fun _ _ => rfl) (rowKey (n := 256)) rowOR_key rowOR_cov X)

theorem squeeze_free (j : Fin 16) : (free c (Rm.slice (slotR j) (fun _ => rfl)) : sProp 𝕄) ⊢ free c (slotOf Rm j) := by
  iintro H
  ihave ⟨%X, %f, %hf, H⟩ := (Entails.of_eq (show (free c (Rm.slice (slotR j) (fun _ => rfl)) : sProp 𝕄) = iprop(∃ X, ∃ f, ⌜(Rm.slice (slotR j) (fun _ => rfl)).view.read (Elt F) f = X⌝
    ∗ ((Rm.slice (slotR j) (fun _ => rfl)).view.loc (c.tc : Thread nD τ) ↦[(Rm.slice (slotR j) (fun _ => rfl)).view.set]{fullShare} f)) from rfl)) $$ H
  rw [← View.set_reshape (Rm.slice (slotR j) (fun _ => rfl)).view squeezes_S1x32x512_S32x512.numel_eq]
  iapply (owns_free c (slotOf Rm j))
  iapply (owns_reads c (slotOf Rm j) fullShare f rfl)
  iexact H
theorem unsqueeze_free (j : Fin 16) : (free c (slotOf Rm j) : sProp 𝕄) ⊢ free c (Rm.slice (slotR j) (fun _ => rfl)) := by
  iintro H
  ihave ⟨%X, %f, %hf, H⟩ := (Entails.of_eq (show (free c (slotOf Rm j) : sProp 𝕄) = iprop(∃ X, ∃ f, ⌜(slotOf Rm j).view.read (Elt F) f = X⌝
    ∗ ((slotOf Rm j).view.loc (c.tc : Thread nD τ) ↦[((Rm.slice (slotR j) (fun _ => rfl)).view.reshape S32x512 squeezes_S1x32x512_S32x512.numel_eq).set]{fullShare} f)) from rfl)) $$ H
  rw [View.set_reshape]
  iapply (owns_free c (Rm.slice (slotR j) (fun _ => rfl)))
  iapply (owns_reads c (Rm.slice (slotR j) (fun _ => rfl)) fullShare f rfl)
  iexact H
theorem slots_free : (free c Rm : sProp 𝕄) ⊢ iprop(free c (slotOf Rm 0) ∗ sepL (fun j => free c (slotOf Rm j)) peers) :=
  ((cut_free c Rm slotR (fun _ _ => rfl) slotKey slotR_key slotR_cov).trans (bigSep_mono fun j _ => squeeze_free c j)).trans (Entails.of_eq (bigSep_peers _))
theorem slots_back : iprop(free c (slotOf Rm 0) ∗ sepL (fun j => free c (slotOf Rm j)) peers) ⊢ (free c Rm : sProp 𝕄) :=
  (Entails.of_eq (bigSep_peers fun j => free c (slotOf Rm j)).symm).trans
    ((bigSep_mono fun j _ => unsqueeze_free c j).trans (uncut_free c Rm slotR (fun _ _ => rfl) slotKey slotR_key slotR_cov))

end Cert.Mlp

end
-- ==== Proof.Stages.lean ====
/-
  The stages of the kernel: each loop run over the peers, and the layers built of them.
-/
module

public import proofs.«01_k».proof.Proof.Steps
public import proofs.«01_k».proof.Proof.Split

@[expose] public section

noncomputable section

namespace Cert.Mlp

open Cert.KernelIdeal Cert.KernelIdeal.Gen Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (V : Blocks F) (K : Dev nD × Option (Fin 4 × Fin 16) → ℕ) (c : Dev nD)

/-- The sum a device forms in layer `r`, from its own term. -/
def sumOf (r : ℕ) (a : FVec F S32x512 .f32) : FVec F S32x512 .f32 := peers.foldl (fun a j => addBlock a (V.part r (peer c j) c)) a
/-- The receive slots stay with the device after the last layer. -/
def left (c : Dev nD) (r : ℕ) (j : Fin 16) : sProp (MM F) := if r < 2 then iprop(emp) else free c (slotOf Rm j)

theorem carry_left (r : ℕ) (j : Fin 16) : iprop(free c (slotOf Rm j) ∗ begun 1 c (r + 1) j) ⊢ (iprop(carryB c j r ∗ left c r j) : sProp 𝕄) := by
  unfold carryB left begun
  by_cases h : r < 2
  · rw [if_pos h, if_pos h]
    iintro ⟨H, Hr⟩
    isplitl
    · isplitl [H] <;> iassumption
    · iempintro
  · rw [if_neg h, if_neg h]
    iintro ⟨H, -⟩
    isplitr
    · iempintro
    · iexact H

/-! ## The loops -/

theorem loop_recvA {r : ℕ} (hr : r < 3) (a : FVec F S32x512 .f32) :
    iprop(know V K ∗ sepL (fun j => iprop(upto 1 c r j ∗ paid 1 c r j)) peers ∗ owing c (tail c (2 * r + 1)))
      ⊢ runs c (over (recvA Rm (isW cc0_scratch1) cc0_scratch4) peers a)
        (fun a' => iprop(sepL (fun j => iprop(upto 1 c (r + 1) j ∗ begun 1 c (r + 1) j ∗ payA V c j r)) peers ∗ ⌜a' = sumOf V c r a⌝ ∗ owing c (tail c (2 * r + 1)))) := by
  iintro ⟨HK, H, HO⟩
  iapply (runs_over c _ (know V K) (fun j => iprop(upto 1 c r j ∗ paid 1 c r j)) (fun j => iprop(upto 1 c (r + 1) j ∗ begun 1 c (r + 1) j ∗ payA V c j r))
    (fun l s => iprop(⌜l.foldl (fun a j => addBlock a (V.part r (peer c j) c)) s = sumOf V c r a⌝ ∗ owing c (tail c (2 * r + 1)))) peers
    (fun j hj l' s => step_recvA V K c (peers_ne j hj) hr (above_tail c (by omega)) _ l' s) a)
  isplitl [HK]; · iexact HK
  isplitl [H]; · iexact H
  isplitr
  · ipureintro; rfl
  · iexact HO

theorem loop_doneB {r : ℕ} (hr : r < 3) {k : ℕ} :
    iprop(know V K ∗ sepL (fun j => iprop(upto 2 c r j ∗ paid 2 c r j)) peers ∗ owing c (tail c k))
      ⊢ runs c (over (fun j _ => doneB Hm (isW cc0_scratch2) cc0_scratch5 c j) peers ())
        (fun _ => iprop(sepL (fun j => iprop(upto 2 c (r + 1) j ∗ begun 2 c (r + 1) j ∗ backB V c j r)) peers ∗ owing c (tail c k))) :=
  runs_over c _ (know V K) (fun j => iprop(upto 2 c r j ∗ paid 2 c r j)) (fun j => iprop(upto 2 c (r + 1) j ∗ begun 2 c (r + 1) j ∗ backB V c j r))
    (fun _ _ => owing c (tail c k)) peers (fun j hj _ s => step_doneB V K c (peers_ne j hj) hr (above_tail c (by omega)) s) ()

theorem loop_sendA0 :
    iprop(know V K ∗ sepL (fun j => iprop(toksA c 0 j ∗ ownsTc c (rowM Pm (peer c j)) fullShare (V.part 0 c (peer c j)) ∗ free (peer c j) (slotOf Rm (-j)))) peers ∗ owing c (tail c 0))
      ⊢ runs c (over (fun j _ => sendA Pm (isW cc0_scratch0) Rm (isW cc0_scratch1) cc0_scratch3 cc0_scratch4 c j) peers ())
        (fun _ => iprop(sepL (fun j => paid 0 c 0 j) peers ∗ owing c (tail c 1))) := by
  rw [tail_step c (by decide), show (owing c (tail c 1) : sProp 𝕄) = owing c (owedX c (2 * 0) [] + tail c 1) by rw [show owedX c (2 * 0) [] = 0 from rfl, zero_add]]
  refine runs_over c _ (know V K) _ (fun j => paid 0 c 0 j) (fun l _ => owing c (owedX c (2 * 0) l + tail c 1)) peers (fun j hj l' s => ?_) ()
  iintro ⟨#HK, ⟨Ht, Hp, Hs⟩, HO⟩
  iapply (step_sendA V K c (peers_ne j hj) (by decide) (tail c 1) l')
  isplitr; · iexact HK
  isplitl [Ht Hp Hs]
  · isplitl [Ht]; · iexact Ht
    isplitr; · unfold begun; iapply (know_reached V K c (some (0, j))); iexact HK
    isplitr; · unfold begun; iapply (know_reached V K (peer c j) (some (1, -j))); iexact HK
    isplitl [Hp]; · iexact Hp
    isplitl [Hs]; · iexact Hs
    · unfold extraA; iempintro
  · iexact HO

theorem loop_sendB {r : ℕ} (hr : r < 3) :
    iprop(know V K ∗ sepL (fun j => iprop(toksB c r j ∗ begun 2 c r j ∗ begun 3 (peer c j) r (-j) ∗ ownsTc c (rowM Hm c) (tok j) (V.hid r c) ∗ free (peer c j) (rowM Hm c) ∗ carryB c j r)) peers
        ∗ owing c (tail c (2 * r + 1)))
      ⊢ runs c (over (fun j _ => sendB Hm (isW cc0_scratch2) cc0_scratch5 cc0_scratch6 c j) peers ())
        (fun _ => iprop(sepL (fun j => paid 2 c r j) peers ∗ owing c (tail c (2 * r + 2)))) := by
  rw [tail_step c (by omega), show (owing c (tail c (2 * r + 2)) : sProp 𝕄) = owing c (owedX c (2 * r + 1) [] + tail c (2 * r + 2)) by rw [show owedX c (2 * r + 1) [] = 0 from rfl, zero_add]]
  exact runs_over c _ (know V K) _ (fun j => paid 2 c r j) (fun l _ => owing c (owedX c (2 * r + 1) l + tail c (2 * r + 2))) peers
    (fun j hj l' s => step_sendB V K c (peers_ne j hj) hr (tail c (2 * r + 2)) l') ()

/-- What a device holds of its cells when it has sent its hidden rows of layer `r`. -/
abbrev ahead (c : Dev nD) (r : ℕ) (j : Fin 16) : sProp (MM F) := iprop(upto 3 c r j ∗ paid 3 c r j ∗ upto 0 c r j ∗ paid 0 c r j)

theorem loop_nextA {r : ℕ} (hr : r < 2) (wo : FVec F S512x256 .bf16) (wi : FVec F S256x512 .bf16) (hV : ∀ d, V.part (r + 1) c d = k0_pay13 wo wi (V.hid r d)) :
    iprop(know V K ∗ sepL (fun j => iprop(ahead c r j ∗ toksA c (r + 1) j)) peers ∗ owing c (tail c (2 * r + 2)))
      ⊢ runs c (over (nextA Pm (isW cc0_scratch0) Rm (isW cc0_scratch1) Hm (isW cc0_scratch2) cc0_scratch3 cc0_scratch4 cc0_scratch6 c wo wi) peers ())
        (fun _ => iprop(sepL (fun j => iprop(upto 3 c (r + 1) j ∗ upto 0 c (r + 1) j ∗ paid 0 c (r + 1) j)) peers ∗ owing c (tail c (2 * r + 3)))) := by
  rw [tail_step c (by omega), show (owing c (tail c (2 * r + 3)) : sProp 𝕄) = owing c (owedX c (2 * (r + 1)) [] + tail c (2 * r + 3)) by rw [show owedX c (2 * (r + 1)) [] = 0 from rfl, zero_add]]
  exact runs_over c _ (know V K) _ (fun j => iprop(upto 3 c (r + 1) j ∗ upto 0 c (r + 1) j ∗ paid 0 c (r + 1) j)) (fun l _ => owing c (owedX c (2 * (r + 1)) l + tail c (2 * r + 3))) peers
    (fun j hj l' s => step_nextA V K c (peers_ne j hj) hr (above_tail c (by omega)) l' wo wi (hV _) s) ()

theorem loop_lastOut (wo : FVec F S512x256 .bf16) :
    iprop(know V K ∗ sepL (fun j => iprop(ahead c 2 j ∗ free c (rowO (peer c j)))) peers ∗ owing c (tail c 6))
      ⊢ runs c (over (lastOut Om Pm (isW cc0_scratch0) Rm (isW cc0_scratch1) Hm (isW cc0_scratch2) cc0_scratch3 cc0_scratch6 c wo) peers ())
        (fun _ => iprop(sepL (fun j => iprop(upto 3 c 3 j ∗ upto 0 c 3 j ∗ ownsTc c (rowO (peer c j)) fullShare (k0_pay78 wo (V.hid 2 (peer c j))) ∗ free c (rowM Pm (peer c j)) ∗ free c (rowM Hm (peer c j)))) peers
          ∗ owing c (tail c 6))) :=
  runs_over c _ (know V K) _ _ (fun _ _ => owing c (tail c 6)) peers (fun j hj _ s => step_lastOut V K c (peers_ne j hj) (above_tail c (by decide)) wo s) ()

theorem loop_entry (T : CellTallies nD τ sig ℕ) :
    iprop(know V K ∗ sepL (fun j => iprop(dutyTok ER (barC (peer c j)) 0 (-j) ∗ free c (slotOf Rm j) ∗ free c (rowM Hm (peer c j)))) peers ∗ owing c (owedBar c peers + T))
      ⊢ runs c (over (entryStep c) peers ()) (fun _ => owing c T) := by
  iintro H
  iapply (runs_frame c (runs_over c (entryStep c) (know V K) _ (fun _ => iprop(emp)) (fun l _ => owing c (owedBar c l + T)) peers
    (fun j hj l' s => runs_entry V K c (peers_ne j hj) l' T s) ())) $$ [H]
  · iexact H
  iintro %u ⟨-, H⟩
  rw [show owedBar c [] + T = T from zero_add T]
  iexact H

end Cert.Mlp

end
-- ==== Proof.Layers.lean ====
/-
  The layers of the kernel, and what is around them.
-/
module

public import proofs.«01_k».proof.Proof.Stages

@[expose] public section

noncomputable section

namespace Cert.Mlp

open Cert.KernelIdeal Cert.KernelIdeal.Gen Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (V : Blocks F) (K : Dev nD × Option (Fin 4 × Fin 16) → ℕ) (c : Dev nD)

theorem sepL_join {Φ Ψ Ξ : Fin 16 → sProp 𝕄} {l : List (Fin 16)} (h : ∀ j, iprop(Φ j ∗ Ψ j) ⊢ (Ξ j : sProp 𝕄)) : iprop(sepL Φ l ∗ sepL Ψ l) ⊢ (sepL Ξ l : sProp 𝕄) :=
  (sepL_zip Φ Ψ l).trans (sepL_mono l fun j _ => h j)
theorem sepL_part {Φ Ψ Ξ : Fin 16 → sProp 𝕄} {l : List (Fin 16)} (h : ∀ j, (Ξ j : sProp 𝕄) ⊢ iprop(Φ j ∗ Ψ j)) : (sepL Ξ l : sProp 𝕄) ⊢ iprop(sepL Φ l ∗ sepL Ψ l) :=
  (sepL_mono l fun j _ => h j).trans (sepL_unzip Φ Ψ l)
theorem sepL_know (R : sProp 𝕄) [BI.Persistent R] {Φ : Fin 16 → sProp 𝕄} (h : ∀ j, (R : sProp 𝕄) ⊢ Φ j) : ∀ l : List (Fin 16), (R : sProp 𝕄) ⊢ sepL Φ l
  | [] => by unfold sepL; iintro -; iempintro
  | j :: l => by
    rw [sepL_cons]
    iintro #H
    isplitr
    · iapply (h j); iexact H
    · iapply (sepL_know R h l); iexact H

theorem runs_ret_bind {α β : Type} {a : α} {k : α → TcProg F β} {Q : β → sProp 𝕄} : runs c (k a) Q ⊢ runs c ((Prog.ret a).bind k) Q := .rfl

/-! ## Gathering a hidden layer -/

/-- The peer's copy of this device's hidden rows may be written for layer `r`. -/
def ready (c : Dev nD) (r : ℕ) (j : Fin 16) : sProp (MM F) := iprop((begun 2 c r j ∗ begun 3 (peer c j) r (-j)) ∗ free (peer c j) (rowM Hm c))

theorem ready_zero : iprop(know V K ∗ sepL (fun j => free (peer c j) (rowM Hm c)) peers) ⊢ (sepL (ready c 0) peers : sProp 𝕄) := by
  iintro ⟨HK, H⟩
  ihave HK := (sepL_know (know V K) (Φ := fun j => iprop(begun 2 c 0 j ∗ begun 3 (peer c j) 0 (-j))) (fun j => by
    unfold begun
    iintro #H
    isplitr
    · iapply (know_reached V K c (some (2, j))); iexact H
    · iapply (know_reached V K (peer c j) (some (3, -j))); iexact H) peers) $$ HK
  iapply (sepL_zip (fun j => (iprop(begun 2 c 0 j ∗ begun 3 (peer c j) 0 (-j)) : sProp 𝕄)) (fun j => free (peer c j) (rowM Hm c)) peers)
  isplitl [HK] <;> iassumption

theorem send_hidden {r : ℕ} (hr : r < 3) :
    iprop(know V K ∗ sepL (toksB c r) peers ∗ sepL (ready c r) peers ∗ ownsTc c (rowM Hm c) fullShare (V.hid r c)
        ∗ sepL (fun j => iprop(free c (slotOf Rm j) ∗ begun 1 c (r + 1) j)) peers ∗ owing c (tail c (2 * r + 1)))
      ⊢ runs c (over (fun j _ => sendB Hm (isW cc0_scratch2) cc0_scratch5 cc0_scratch6 c j) peers ())
        (fun _ => iprop(kept c (rowM Hm c) (V.hid r c) ∗ sepL (paid 2 c r) peers ∗ sepL (left c r) peers ∗ owing c (tail c (2 * r + 2)))) := by
  iintro ⟨HK, Ht, Hr, Hrow, Hs, HO⟩
  ihave ⟨Hkept, Htok⟩ := (deal c (rowM Hm c) (V.hid r c)) $$ Hrow
  ihave ⟨Hc, Hl⟩ := (sepL_part (fun j => carry_left c r j) (l := peers)) $$ Hs
  ihave H := (sepL_zip (ready c r) (fun j => carryB c j r) peers) $$ [Hr Hc]
  · isplitl [Hr] <;> iassumption
  ihave H := (sepL_zip (fun j => ownsTc c (rowM Hm c) (tok j) (V.hid r c)) (fun j => iprop(ready c r j ∗ carryB c j r)) peers) $$ [Htok H]
  · isplitl [Htok] <;> iassumption
  ihave H := (sepL_join (Φ := toksB c r) (Ψ := fun j => iprop(ownsTc c (rowM Hm c) (tok j) (V.hid r c) ∗ ready c r j ∗ carryB c j r))
    (Ξ := fun j => iprop(toksB c r j ∗ begun 2 c r j ∗ begun 3 (peer c j) r (-j) ∗ ownsTc c (rowM Hm c) (tok j) (V.hid r c) ∗ free (peer c j) (rowM Hm c) ∗ carryB c j r)) (l := peers)
    (fun j => by
      unfold ready
      iintro ⟨Ht, Ho, ⟨⟨H2, H3⟩, Hf⟩, Hc⟩
      isplitl [Ht]; · iexact Ht
      isplitl [H2]; · iexact H2
      isplitl [H3]; · iexact H3
      isplitl [Ho]; · iexact Ho
      isplitl [Hf] <;> iassumption)) $$ [Ht H]
  · isplitl [Ht] <;> iassumption
  iapply (runs_frame c (loop_sendB V K c hr)) $$ [HK H HO]
  · isplitl [HK]; · iexact HK
    isplitl [H] <;> iassumption
  iintro %u ⟨Hp, HO⟩
  isplitl [Hkept]; · iexact Hkept
  isplitl [Hp]; · iexact Hp
  isplitl [Hl] <;> iassumption

abbrev gatherAt (wait : Bool) (a : FVec F S32x512 .f32) : TcProg F (FVec F S32x512 .f32) :=
  gather Rm (isW cc0_scratch1) Hm (isW cc0_scratch2) cc0_scratch4 cc0_scratch5 cc0_scratch6 c wait a

theorem gather_first (a : FVec F S32x512 .f32) (hV : V.hid 0 c = narrow (relu (sumOf V c 0 a))) :
    iprop(know V K ∗ sepL (fun j => iprop(upto 1 c 0 j ∗ paid 1 c 0 j)) peers ∗ free c (rowM Hm c) ∗ sepL (toksB c 0) peers ∗ sepL (fun j => free (peer c j) (rowM Hm c)) peers ∗ owing c (tail c 1))
      ⊢ runs c (gatherAt c false a) (fun h => iprop(⌜h = relu (sumOf V c 0 a)⌝ ∗ (kept c (rowM Hm c) (V.hid 0 c) ∗ sepL (upto 1 c 1) peers ∗ sepL (paid 2 c 0) peers ∗ sepL (left c 0) peers)
        ∗ owing c (tail c 2))) := by
  unfold gatherAt gather
  iintro ⟨#HK, Hu, Hrow, Ht, Hf, HO⟩
  iapply (runs_seq c (loop_recvA V K c (r := 0) (by decide) a)) $$ [Hu HO]
  · isplitr; · iexact HK
    isplitl [Hu] <;> iassumption
  iintro %a' ⟨H, %ha, HO⟩
  subst ha
  iapply (runs_seq c (step_putH c (sumOf V c 0 a))) $$ Hrow
  rw [← hV]
  iintro %u Hrow
  iapply (runs_ret_bind c)
  ihave ⟨Hu, H⟩ := (sepL_part (Φ := upto 1 c 1) (Ψ := fun j => iprop(free c (slotOf Rm j) ∗ begun 1 c 1 j)) (fun j => by
    unfold payA extraA
    iintro ⟨Hu, Hb, Ho, -⟩
    isplitl [Hu]; · iexact Hu
    isplitl [Ho]
    · iapply (owns_free c (slotOf Rm j)); iexact Ho
    · iexact Hb) (l := peers)) $$ H
  ihave Hr := (ready_zero V K c) $$ [Hf]
  · isplitr
    · iexact HK
    · iexact Hf
  iapply (runs_seq c (send_hidden V K c (r := 0) (by decide))) $$ [Ht Hr Hrow H HO]
  · isplitr; · iexact HK
    isplitl [Ht]; · iexact Ht
    isplitl [Hr]; · iexact Hr
    isplitl [Hrow]; · iexact Hrow
    isplitl [H] <;> iassumption
  iintro %u' ⟨Hk, Hp, Hl, HO⟩
  iapply (runs_ret c (F := F))
  isplitr; · ipureintro; rfl
  isplitr [HO]
  · isplitl [Hk]; · iexact Hk
    isplitl [Hu]; · iexact Hu
    isplitl [Hp] <;> iassumption
  · iexact HO

theorem gather_next {r : ℕ} (hr : r + 1 < 3) (a : FVec F S32x512 .f32) (hV : V.hid (r + 1) c = narrow (relu (sumOf V c (r + 1) a))) :
    iprop(know V K ∗ sepL (fun j => iprop(upto 1 c (r + 1) j ∗ paid 1 c (r + 1) j)) peers ∗ kept c (rowM Hm c) (V.hid r c) ∗ sepL (toksB c (r + 1)) peers
        ∗ sepL (fun j => iprop(upto 2 c r j ∗ paid 2 c r j)) peers ∗ owing c (tail c (2 * (r + 1) + 1)))
      ⊢ runs c (gatherAt c true a) (fun h => iprop(⌜h = relu (sumOf V c (r + 1) a)⌝ ∗ (kept c (rowM Hm c) (V.hid (r + 1) c) ∗ sepL (upto 1 c (r + 2)) peers ∗ sepL (upto 2 c (r + 1)) peers
        ∗ sepL (paid 2 c (r + 1)) peers ∗ sepL (left c (r + 1)) peers) ∗ owing c (tail c (2 * (r + 1) + 2)))) := by
  unfold gatherAt gather
  iintro ⟨#HK, Hu, Hkept, Ht, Hd, HO⟩
  iapply (runs_seq c (loop_recvA V K c hr a)) $$ [Hu HO]
  · isplitr; · iexact HK
    isplitl [Hu] <;> iassumption
  iintro %a' ⟨H, %ha, HO⟩
  subst ha
  ihave ⟨Hu, H⟩ := (sepL_part (Φ := upto 1 c (r + 2)) (Ψ := fun j => iprop((free c (slotOf Rm j) ∗ begun 1 c (r + 2) j) ∗ extraA V c j (r + 1))) (fun j => by
    unfold payA
    iintro ⟨Hu, Hb, Ho, Hx⟩
    isplitl [Hu]; · iexact Hu
    isplitr [Hx]
    · isplitl [Ho]
      · iapply (owns_free c (slotOf Rm j)); iexact Ho
      · iexact Hb
    · iexact Hx) (l := peers)) $$ H
  ihave ⟨H, Hx⟩ := (sepL_unzip (fun j => (iprop(free c (slotOf Rm j) ∗ begun 1 c (r + 2) j) : sProp 𝕄)) (fun j => extraA V c j (r + 1)) peers) $$ H
  ihave ⟨Htok, Hx⟩ := (sepL_part (Φ := fun j => ownsTc c (rowM Hm c) (tok j) (V.hid r c)) (Ψ := fun j => iprop(free (peer c j) (rowM Hm c) ∗ begun 3 (peer c j) (r + 1) (-j))) (fun j => by
    unfold extraA begun
    iintro ⟨Hf, Ho, Hr⟩
    isplitl [Ho]; · iexact Ho
    isplitl [Hf] <;> iassumption) (l := peers)) $$ Hx
  ihave Hrow := (undeal c (rowM Hm c) (V.hid r c)) $$ [Hkept Htok]
  · isplitl [Hkept] <;> iassumption
  ihave Hrow := (owns_free c (rowM Hm c) (V.hid r c)) $$ Hrow
  iapply (runs_seq c (step_putH c (sumOf V c (r + 1) a))) $$ Hrow
  rw [← hV]
  iintro %u Hrow
  iapply (runs_seq c (loop_doneB V K c (r := r) (k := 2 * (r + 1) + 1) (by omega))) $$ [Hd HO]
  · isplitr; · iexact HK
    isplitl [Hd] <;> iassumption
  iintro %u' ⟨Hd, HO⟩
  ihave ⟨Hd, Hb⟩ := (sepL_part (Φ := upto 2 c (r + 1)) (Ψ := begun 2 c (r + 1)) (fun j => by
    unfold backB
    rw [if_pos (show r < 2 by omega)]
    iintro ⟨Hu, Hb, -⟩
    isplitl [Hu] <;> iassumption) (l := peers)) $$ Hd
  ihave Hr := (sepL_join (Φ := begun 2 c (r + 1)) (Ψ := fun j => iprop(free (peer c j) (rowM Hm c) ∗ begun 3 (peer c j) (r + 1) (-j))) (Ξ := ready c (r + 1)) (fun j => by
    unfold ready
    iintro ⟨Hb, Hf, Hr⟩
    isplitr [Hf]
    · isplitl [Hb] <;> iassumption
    · iexact Hf) (l := peers)) $$ [Hb Hx]
  · isplitl [Hb] <;> iassumption
  iapply (runs_seq c (send_hidden V K c hr)) $$ [Ht Hr Hrow H HO]
  · isplitr; · iexact HK
    isplitl [Ht]; · iexact Ht
    isplitl [Hr]; · iexact Hr
    isplitl [Hrow]; · iexact Hrow
    isplitl [H] <;> iassumption
  iintro %u'' ⟨Hk, Hp, Hl, HO⟩
  iapply (runs_ret c (F := F))
  isplitr; · ipureintro; rfl
  isplitr [HO]
  · isplitl [Hk]; · iexact Hk
    isplitl [Hu]; · iexact Hu
    isplitl [Hd]; · iexact Hd
    isplitl [Hp] <;> iassumption
  · iexact HO

end Cert.Mlp

end
-- ==== Proof.Parts.lean ====
/-
  The three parts of the kernel — its opening, a layer that is followed by another, the last layer — run.
-/
module

public import proofs.«01_k».proof.Proof.Layers

@[expose] public section

noncomputable section

namespace Cert.Mlp

open Cert.KernelIdeal Cert.KernelIdeal.Gen Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (V : Blocks F) (K : Dev nD × Option (Fin 4 × Fin 16) → ℕ) (c : Dev nD)

theorem zeros : (![0, 0] : Fin 2 → ℕ) = fun _ => 0 := by decide

abbrev openingAt (arg0 : Memref sig .tc .vmem S512x256 .f32) (arg1 : Memref sig .tc .vmem S256x512 .f32) : TcProg F (FVec F S32x512 .f32) :=
  opening arg0 arg1 Pm (isW cc0_scratch0) Rm (isW cc0_scratch1) cc0_scratch3 cc0_scratch4 c

theorem run_opening (arg0 : Memref sig .tc .vmem S512x256 .f32) (arg1 : Memref sig .tc .vmem S256x512 .f32) {q₀ q₁ : PosShare TreeShare} (X : Vec F S512x256 .f32) (W : Vec F S256x512 .f32)
    (hV : ∀ d i, V.part 0 c d i = k0_pay1 X W ((rowR d).emb i)) :
    iprop(know V K ∗ (cred (tallyAt (barC c) 0 15) ∗ atPos ER (barC c) 0 ∅ 0 ∗ sepL (fun j => dutyTok ER (barC (peer c j)) 0 (-j)) peers)
        ∗ (free c Pm ∗ free c Rm ∗ free c Hm) ∗ (ownsTc c arg0 q₀ X ∗ ownsTc c arg1 q₁ W) ∗ sepL (toksA c 0) peers ∗ owing c (owedBar c peers + tail c 0))
      ⊢ runs c (openingAt c arg0 arg1) (fun a => iprop(⌜a = extf .f32 (V.part 0 c c) bitsLt_bf16_f32⌝ ∗ atPos ER (barC c) 1 ∅ 0
        ∗ (free c (rowM Pm c) ∗ free c (slotOf Rm 0) ∗ free c (rowM Hm c)) ∗ (ownsTc c arg0 q₀ X ∗ ownsTc c arg1 q₁ W)
        ∗ sepL (paid 0 c 0) peers ∗ sepL (fun j => free (peer c j) (rowM Hm c)) peers ∗ owing c (tail c 1))) := by
  unfold openingAt opening
  iintro ⟨#HK, ⟨Hc, Hat, Hd⟩, ⟨HP, HR, HH⟩, ⟨HX, HW⟩, Ht, HO⟩
  ihave ⟨HR0, HR⟩ := (slots_free c) $$ HR
  ihave ⟨HH0, HH⟩ := (rows_free c Hm) $$ HH
  ihave H := (sepL_zip (fun j => (free c (slotOf Rm j) : sProp 𝕄)) (fun j => free c (rowM Hm (peer c j))) peers) $$ [HR HH]
  · isplitl [HR] <;> iassumption
  ihave H := (sepL_zip (fun j => (dutyTok ER (barC (peer c j)) 0 (-j) : sProp 𝕄)) (fun j => iprop(free c (slotOf Rm j) ∗ free c (rowM Hm (peer c j)))) peers) $$ [Hd H]
  · isplitl [Hd] <;> iassumption
  iapply (runs_seq c (loop_entry V K c (tail c 0))) $$ [H HO]
  · isplitr; · iexact HK
    isplitl [H] <;> iassumption
  iintro %u HO
  iapply (runs_waitBar V K c (O := tail c 0) (above_tail c (by decide))) $$ [Hc HO Hat]
  · isplitr; · iexact HK
    isplitl [Hc]; · iexact Hc
    isplitl [HO] <;> iassumption
  iintro ⟨HO, Hat, Hb⟩
  ihave ⟨Hs, Hh⟩ := (sepL_part (Φ := fun j => free (peer c j) (slotOf Rm (-j))) (Ψ := fun j => free (peer c j) (rowM Hm c)) (Ξ := fun j => barPay (F := F) c j) (fun j => by
    unfold barPay
    iintro ⟨Hs, Hh⟩
    isplitl [Hs] <;> iassumption) (l := peers)) $$ Hb
  iapply (runs_loadAll c arg0 zeros inb_S512x256_S512x256_0_0) $$ HX
  iintro HX
  iapply (runs_loadAll c arg1 zeros inb_S256x512_S256x512_0_0) $$ HW
  iintro HW
  iapply (runs_loadStoreAll c Pm zeros inb_S512x512_S512x512_0_0) $$ HP
  iintro HP
  ihave ⟨HP0, HP⟩ := (rows_out c Pm (k0_pay1 X W) (V.part 0 c) hV) $$ HP
  ihave H := (sepL_zip (fun j => ownsTc c (rowM Pm (peer c j)) fullShare (V.part 0 c (peer c j))) (fun j => free (peer c j) (slotOf Rm (-j))) peers) $$ [HP Hs]
  · isplitl [HP] <;> iassumption
  ihave H := (sepL_zip (toksA c 0) (fun j => iprop(ownsTc c (rowM Pm (peer c j)) fullShare (V.part 0 c (peer c j)) ∗ free (peer c j) (slotOf Rm (-j)))) peers) $$ [Ht H]
  · isplitl [Ht] <;> iassumption
  iapply (runs_seq c (loop_sendA0 V K c)) $$ [H HO]
  · isplitr; · iexact HK
    isplitl [H] <;> iassumption
  iintro %u' ⟨Hp, HO⟩
  iapply (runs_loadRow c c Pm (k0_off2_eq c) (k0_off2_inb c)) $$ HP0
  iintro HP0
  iapply (runs_ret c (F := F))
  isplitr; · ipureintro; rfl
  isplitl [Hat]; · iexact Hat
  isplitl [HP0 HR0 HH0]
  · isplitl [HP0]; · iapply (owns_free c (rowM Pm c)); iexact HP0
    isplitl [HR0] <;> iassumption
  isplitl [HX HW]
  · isplitl [HX] <;> iassumption
  isplitl [Hp]; · iexact Hp
  isplitl [Hh] <;> iassumption

abbrev middleAt (wait : Bool) (argO : Memref sig .tc .vmem S512x256 .f32) (argI : Memref sig .tc .vmem S256x512 .f32) (a : FVec F S32x512 .f32) : TcProg F (FVec F S32x512 .f32) :=
  middle Pm (isW cc0_scratch0) Rm (isW cc0_scratch1) Hm (isW cc0_scratch2) cc0_scratch3 cc0_scratch4 cc0_scratch5 cc0_scratch6 c wait argO argI a

/-- A layer, from the run of its gathering. -/
theorem run_middle {r : ℕ} (hr : r < 2) {wait : Bool} {a A : FVec F S32x512 .f32} {P R : sProp 𝕄}
    (hg : P ⊢ runs c (gatherAt c wait a) (fun h => iprop(⌜h = relu A⌝ ∗ R ∗ owing c (tail c (2 * r + 2)))))
    (argO : Memref sig .tc .vmem S512x256 .f32) (argI : Memref sig .tc .vmem S256x512 .f32) {q₀ q₁ : PosShare TreeShare} (wo : Vec F S512x256 .f32) (wi : Vec F S256x512 .f32)
    (hV : ∀ d, V.part (r + 1) c d = k0_pay13 (k0_pay10 wo) (k0_pay11 wi) (V.hid r d)) :
    iprop(know V K ∗ P ∗ (ownsTc c argO q₀ wo ∗ ownsTc c argI q₁ wi) ∗ sepL (ahead c r) peers ∗ sepL (toksA c (r + 1)) peers)
      ⊢ runs c (middleAt c wait argO argI a) (fun a' => iprop(⌜a' = k0_pay12 (relu A) wo wi⌝ ∗ R ∗ (ownsTc c argO q₀ wo ∗ ownsTc c argI q₁ wi)
        ∗ (sepL (upto 3 c (r + 1)) peers ∗ sepL (upto 0 c (r + 1)) peers ∗ sepL (paid 0 c (r + 1)) peers) ∗ owing c (tail c (2 * r + 3)))) := by
  unfold middleAt middle
  iintro ⟨#HK, HP, ⟨Ho, Hi⟩, Ha, Ht⟩
  iapply (runs_seq c hg) $$ HP
  iintro %h ⟨%hh, HR, HO⟩
  subst hh
  iapply (runs_loadAll c argO zeros inb_S512x256_S512x256_0_0) $$ Ho
  iintro Ho
  iapply (runs_loadAll c argI zeros inb_S256x512_S256x512_0_0) $$ Hi
  iintro Hi
  ihave H := (sepL_zip (ahead c r) (toksA c (r + 1)) peers) $$ [Ha Ht]
  · isplitl [Ha] <;> iassumption
  iapply (runs_seq c (loop_nextA V K c hr (k0_pay10 wo) (k0_pay11 wi) hV)) $$ [H HO]
  · isplitr; · iexact HK
    isplitl [H] <;> iassumption
  iintro %u ⟨H, HO⟩
  ihave ⟨H3, H⟩ := (sepL_unzip (upto 3 c (r + 1)) (fun j => (iprop(upto 0 c (r + 1) j ∗ paid 0 c (r + 1) j) : sProp 𝕄)) peers) $$ H
  ihave ⟨H0, H⟩ := (sepL_unzip (upto 0 c (r + 1)) (fun j => (paid 0 c (r + 1) j : sProp 𝕄)) peers) $$ H
  iapply (runs_ret c (F := F))
  isplitr; · ipureintro; rfl
  isplitl [HR]; · iexact HR
  isplitl [Ho Hi]
  · isplitl [Ho] <;> iassumption
  isplitr [HO]
  · isplitl [H3]; · iexact H3
    isplitl [H0] <;> iassumption
  · iexact HO

abbrev closingAt (arg6 : Memref sig .tc .vmem S512x256 .f32) (a : FVec F S32x512 .f32) : TcProg F PUnit :=
  closing arg6 Om Pm (isW cc0_scratch0) Rm (isW cc0_scratch1) Hm (isW cc0_scratch2) cc0_scratch3 cc0_scratch4 cc0_scratch5 cc0_scratch6 c a

/-- The last layer. -/
theorem run_closing (a : FVec F S32x512 .f32) (hV : V.hid 2 c = narrow (relu (sumOf V c 2 a))) (arg6 : Memref sig .tc .vmem S512x256 .f32) {q : PosShare TreeShare} (wo : Vec F S512x256 .f32)
    (Y : Vec F S512x256 .f32) (p : Dev nD → FVec F S32x256 .f32) (hp : ∀ d i, p d i = Y ((rowOR d).emb i)) (hY : p c = k0_pay77 (relu (sumOf V c 2 a)) wo)
    (hY' : ∀ j ∈ peers, p (peer c j) = k0_pay78 (k0_pay76 wo) (V.hid 2 (peer c j))) :
    iprop(know V K ∗ (sepL (fun j => iprop(upto 1 c 2 j ∗ paid 1 c 2 j)) peers ∗ kept c (rowM Hm c) (V.hid 1 c) ∗ sepL (toksB c 2) peers ∗ sepL (fun j => iprop(upto 2 c 1 j ∗ paid 2 c 1 j)) peers
          ∗ owing c (tail c 5))
        ∗ (ownsTc c arg6 q wo ∗ free c Om) ∗ sepL (ahead c 2) peers ∗ (free c (rowM Pm c) ∗ free c (slotOf Rm 0)))
      ⊢ runs c (closingAt c arg6 a) (fun _ => iprop((ownsTc c arg6 q wo ∗ ownsTc c Om fullShare Y) ∗ (free c Pm ∗ free c Rm ∗ free c Hm)
        ∗ (sepL (upto 0 c 3) peers ∗ sepL (upto 1 c 3) peers ∗ sepL (upto 2 c 3) peers ∗ sepL (upto 3 c 3) peers) ∗ owing c 0)) := by
  unfold closingAt closing
  iintro ⟨#HK, Hg, ⟨Hw, HOm⟩, Ha, HP0, HR0⟩
  iapply (runs_seq c (gather_next V K c (r := 1) (by decide) a hV)) $$ [Hg]
  · isplitr
    · iexact HK
    · iexact Hg
  iintro %h ⟨%hh, ⟨Hkept, Hu1, Hu2, Hp2, Hl⟩, HO⟩
  subst hh
  iapply (runs_loadAll c arg6 zeros inb_S512x256_S512x256_0_0) $$ Hw
  iintro Hw
  ihave ⟨HO0, HOm⟩ := (out_free c) $$ HOm
  iapply (runs_putOut c c (k0_off5_eq c) (k0_off5_inb c) (k0_off5_inb c)) $$ HO0
  iintro HO0
  ihave H := (sepL_zip (ahead c 2) (fun j => free c (rowO (peer c j))) peers) $$ [Ha HOm]
  · isplitl [Ha] <;> iassumption
  iapply (runs_seq c (loop_lastOut V K c (k0_pay76 wo))) $$ [H HO]
  · isplitr; · iexact HK
    isplitl [H] <;> iassumption
  iintro %u ⟨H, HO⟩
  ihave Hd := (sepL_zip (upto 2 c 2) (fun j => (paid 2 c 2 j : sProp 𝕄)) peers) $$ [Hu2 Hp2]
  · isplitl [Hu2] <;> iassumption
  iapply (runs_seq c (loop_doneB V K c (r := 2) (k := 6) (by decide))) $$ [Hd HO]
  · isplitr; · iexact HK
    isplitl [Hd] <;> iassumption
  iintro %u' ⟨Hd, HO⟩
  iapply (runs_ret c (F := F))
  ihave ⟨Hu2, Hb⟩ := (sepL_part (Φ := upto 2 c 3) (Ψ := fun j => ownsTc c (rowM Hm c) (tok j) (V.hid 2 c)) (fun j => by
    unfold backB
    rw [if_neg (show ¬ 2 < 2 by omega)]
    iintro ⟨Hu, -, Ho⟩
    isplitl [Hu] <;> iassumption) (l := peers)) $$ Hd
  ihave Hrow := (undeal c (rowM Hm c) (V.hid 2 c)) $$ [Hkept Hb]
  · isplitl [Hkept] <;> iassumption
  ihave Hrow := (owns_free c (rowM Hm c) (V.hid 2 c)) $$ Hrow
  ihave ⟨Hu3, H⟩ := (sepL_unzip (upto 3 c 3) (fun j => (iprop(upto 0 c 3 j ∗ ownsTc c (rowO (peer c j)) fullShare (k0_pay78 (k0_pay76 wo) (V.hid 2 (peer c j)))
    ∗ free c (rowM Pm (peer c j)) ∗ free c (rowM Hm (peer c j))) : sProp 𝕄)) peers) $$ H
  ihave ⟨Hu0, H⟩ := (sepL_unzip (upto 0 c 3) (fun j => (iprop(ownsTc c (rowO (peer c j)) fullShare (k0_pay78 (k0_pay76 wo) (V.hid 2 (peer c j)))
    ∗ free c (rowM Pm (peer c j)) ∗ free c (rowM Hm (peer c j))) : sProp 𝕄)) peers) $$ H
  ihave ⟨Ho, H⟩ := (sepL_unzip (fun j => (ownsTc c (rowO (peer c j)) fullShare (k0_pay78 (k0_pay76 wo) (V.hid 2 (peer c j))) : sProp 𝕄))
    (fun j => (iprop(free c (rowM Pm (peer c j)) ∗ free c (rowM Hm (peer c j))) : sProp 𝕄)) peers) $$ H
  ihave ⟨HP, HH⟩ := (sepL_unzip (fun j => (free c (rowM Pm (peer c j)) : sProp 𝕄)) (fun j => free c (rowM Hm (peer c j))) peers) $$ H
  ihave Ho := (sepL_mono peers (Ψ := fun j => ownsTc c (rowO (peer c j)) fullShare (p (peer c j))) (fun j hj => by rw [hY' j hj])) $$ Ho
  rw [← hY]
  isplitl [Hw HO0 Ho]
  · isplitl [Hw]; · iexact Hw
    iapply (out_back c Y p hp)
    isplitl [HO0] <;> iassumption
  isplitl [HP0 HP HR0 Hl Hrow HH]
  · isplitl [HP0 HP]
    · iapply (rows_back c Pm)
      isplitl [HP0] <;> iassumption
    isplitl [HR0 Hl]
    · iapply (slots_back c)
      isplitl [HR0]; · iexact HR0
      iapply (sepL_mono (Φ := left c 2) peers fun j _ => by
        unfold left
        rw [if_neg (show ¬ 2 < 2 by omega)])
      iexact Hl
    · iapply (rows_back c Hm)
      isplitl [Hrow] <;> iassumption
  isplitr [HO]
  · isplitl [Hu0]; · iexact Hu0
    isplitl [Hu1]; · iexact Hu1
    isplitl [Hu2] <;> iassumption
  · rw [← tail_end c]; iexact HO

end Cert.Mlp

end
-- ==== Proof.Values.lean ====
/-
  The values the kernel computes, from the blocks the devices hold.
-/
module

public import proofs.«01_k».proof.Proof.Stages

@[expose] public section

noncomputable section

namespace Cert.Mlp

open Cert.KernelIdeal Cert.KernelIdeal.Gen Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- What the devices hold at the start: the input's columns, and for each layer the rows of its first and the columns of its second matrix. -/
structure Given (F : FTy → Type) [FloatOps F] where
  x : Dev nD → Vec F S512x256 .f32
  wi : ℕ → Dev nD → Vec F S256x512 .f32
  wo : ℕ → Dev nD → Vec F S512x256 .f32

variable (g : Given F)

/-- A device's sum, from its own term and the blocks it is sent. -/
def accOf (own : Dev nD → FVec F S32x512 .f32) (part : Dev nD → Dev nD → FVec F S32x512 .bf16) (c : Dev nD) : FVec F S32x512 .f32 :=
  peers.foldl (fun a j => addBlock a (part (peer c j) c)) (own c)
/-- A device's rows of the hidden layer. -/
def hidOf (own : Dev nD → FVec F S32x512 .f32) (part : Dev nD → Dev nD → FVec F S32x512 .bf16) (c : Dev nD) : FVec F S32x512 .bf16 := narrow (relu (accOf own part c))

/-- The devices' own terms and the blocks they send, layer by layer. -/
def level : ℕ → (Dev nD → FVec F S32x512 .f32) × (Dev nD → Dev nD → FVec F S32x512 .bf16)
  | 0 => (fun c => extf .f32 (fun i : S32x512.Idx => k0_pay1 (g.x c) (g.wi 0 c) ((rowR c).emb i) : FVec F S32x512 .bf16) bitsLt_bf16_f32, fun c d i => k0_pay1 (g.x c) (g.wi 0 c) ((rowR d).emb i))
  | r + 1 => (fun c => k0_pay12 (relu (accOf (level r).1 (level r).2 c)) (g.wo r c) (g.wi (r + 1) c),
      fun c d => k0_pay13 (k0_pay10 (g.wo r c)) (k0_pay11 (g.wi (r + 1) c)) (hidOf (level r).1 (level r).2 d))
def own (r : ℕ) : Dev nD → FVec F S32x512 .f32 := (level g r).1
def part (r : ℕ) : Dev nD → Dev nD → FVec F S32x512 .bf16 := (level g r).2
def acc (r : ℕ) : Dev nD → FVec F S32x512 .f32 := accOf (own g r) (part g r)
def hid (r : ℕ) : Dev nD → FVec F S32x512 .bf16 := hidOf (own g r) (part g r)

def blocks : Blocks F := ⟨part g, hid g⟩

theorem own_zero (c : Dev nD) : own g 0 c = extf .f32 (part g 0 c c) bitsLt_bf16_f32 := rfl
theorem part_zero (c d : Dev nD) (i : S32x512.Idx) : part g 0 c d i = k0_pay1 (g.x c) (g.wi 0 c) ((rowR d).emb i) := rfl
theorem own_succ (r : ℕ) (c : Dev nD) : own g (r + 1) c = k0_pay12 (relu (acc g r c)) (g.wo r c) (g.wi (r + 1) c) := rfl
theorem part_succ (r : ℕ) (c d : Dev nD) : part g (r + 1) c d = k0_pay13 (k0_pay10 (g.wo r c)) (k0_pay11 (g.wi (r + 1) c)) (hid g r d) := rfl
theorem acc_eq (r : ℕ) (c : Dev nD) : acc g r c = sumOf (blocks g) c r (own g r c) := rfl
theorem hid_eq (r : ℕ) (c : Dev nD) : hid g r c = narrow (relu (acc g r c)) := rfl

/-- Device `d`'s rows of device `c`'s columns of the result. -/
def outRows (c d : Dev nD) : FVec F S32x256 .f32 := if d = c then k0_pay77 (relu (acc g 2 c)) (g.wo 2 c) else k0_pay78 (k0_pay76 (g.wo 2 c)) (hid g 2 d)
/-- Device `c`'s columns of the result. -/
def outAt (c : Dev nD) : Vec F S512x256 .f32 := fun i => outRows g c (rowKey (n := 256) i) (rowOR_cov i).choose
theorem outAt_rows (c d : Dev nD) (i : S32x256.Idx) : outRows g c d i = outAt g c ((rowOR d).emb i) := by
  have h (d' : Dev nD) (hd : d' = d) (i' : S32x256.Idx) (he : (rowOR d').emb i' = (rowOR d).emb i) : outRows g c d i = outRows g c d' i' := by
    subst hd
    exact congrArg (outRows g c d') ((rowOR d').emb.injective he.symm)
  exact h _ (rowOR_key d i) _ (rowOR_cov ((rowOR d).emb i)).choose_spec
theorem outRows_self (c : Dev nD) : outRows g c c = k0_pay77 (relu (acc g 2 c)) (g.wo 2 c) := if_pos rfl
theorem outRows_peer (c : Dev nD) {j : Fin 16} (hj : j ∈ peers) : outRows g c (peer c j) = k0_pay78 (k0_pay76 (g.wo 2 c)) (hid g 2 (peer c j)) :=
  if_neg fun h => peers_ne j hj ((around c).injective (h.trans (peer_zero c).symm))

end Cert.Mlp

end
-- ==== Proof.Body.lean ====
/-
  The kernel's body run, on one device, from what it starts with to its columns of the result.
-/
module

public import proofs.«01_k».proof.Proof.Parts
public import proofs.«01_k».proof.Proof.Values

@[expose] public section

noncomputable section

namespace Cert.Mlp

open Cert.KernelIdeal Cert.KernelIdeal.Gen Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (g : Given F) (K : Dev nD × Option (Fin 4 × Fin 16) → ℕ) (c : Dev nD)

/-- A device's positions at its cells, its tokens and its credits, at the start. -/
def gear (c : Dev nD) : sProp (MM F) :=
  iprop((cred (tallyAt (barC c) 0 15) ∗ atPos ER (barC c) 0 ∅ 0 ∗ sepL (fun j => dutyTok ER (barC (peer c j)) 0 (-j)) peers)
    ∗ (sepL (upto 0 c 0) peers ∗ sepL (upto 1 c 0) peers ∗ sepL (upto 2 c 0) peers ∗ sepL (upto 3 c 0) peers)
    ∗ (sepL (toksA c 0) peers ∗ sepL (toksA c 1) peers ∗ sepL (toksA c 2) peers)
    ∗ (sepL (toksB c 0) peers ∗ sepL (toksB c 1) peers ∗ sepL (toksB c 2) peers)
    ∗ (sepL (paid 1 c 0) peers ∗ sepL (paid 1 c 1) peers ∗ sepL (paid 1 c 2) peers)
    ∗ (sepL (paid 3 c 0) peers ∗ sepL (paid 3 c 1) peers ∗ sepL (paid 3 c 2) peers))
/-- Its positions at the end. -/
def spent (c : Dev nD) : sProp (MM F) :=
  iprop(atPos ER (barC c) 1 ∅ 0 ∗ sepL (upto 0 c 3) peers ∗ sepL (upto 1 c 3) peers ∗ sepL (upto 2 c 3) peers ∗ sepL (upto 3 c 3) peers)
def scratch (c : Dev nD) : sProp (MM F) := iprop(free c Pm ∗ free c Rm ∗ free c Hm)
/-- The operands, staged. -/
def operands (c : Dev nD) : sProp (MM F) :=
  iprop(ownsTc c (Memref.whole cc0_stg0_0) fullShare (g.x c) ∗ ownsTc c (Memref.whole cc0_stg1_0) fullShare (g.wi 0 c) ∗ ownsTc c (Memref.whole cc0_stg2_0) fullShare (g.wo 0 c)
    ∗ ownsTc c (Memref.whole cc0_stg3_0) fullShare (g.wi 1 c) ∗ ownsTc c (Memref.whole cc0_stg4_0) fullShare (g.wo 1 c)
    ∗ ownsTc c (Memref.whole cc0_stg5_0) fullShare (g.wi 2 c) ∗ ownsTc c (Memref.whole cc0_stg6_0) fullShare (g.wo 2 c))

abbrev loopedAt : TcProg F PUnit :=
  looped (Memref.whole cc0_stg0_0) (Memref.whole cc0_stg1_0) (Memref.whole cc0_stg2_0) (Memref.whole cc0_stg3_0) (Memref.whole cc0_stg4_0) (Memref.whole cc0_stg5_0) (Memref.whole cc0_stg6_0)
    Om Pm (isW cc0_scratch0) Rm (isW cc0_scratch1) Hm (isW cc0_scratch2) cc0_scratch3 cc0_scratch4 cc0_scratch5 cc0_scratch6

theorem ahead_zip (r : ℕ) : iprop(sepL (upto 3 c r) peers ∗ sepL (paid 3 c r) peers ∗ sepL (upto 0 c r) peers ∗ sepL (paid 0 c r) peers) ⊢ (sepL (ahead c r) peers : sProp 𝕄) :=
  (Laws.sep_mono .rfl ((Laws.sep_mono .rfl (sepL_zip _ _ _)).trans (sepL_zip _ _ _))).trans (sepL_zip _ _ _)

theorem run_body :
    iprop(know (blocks g) K ∗ gear c ∗ scratch c ∗ operands g c ∗ free c Om ∗ owing c (owedBar c peers + tail c 0))
      ⊢ runs c (loopedAt (F := F)) (fun _ => iprop(spent c ∗ scratch c ∗ operands g c ∗ ownsTc c Om fullShare (outAt g c) ∗ owing c 0)) := by
  unfold loopedAt looped gear scratch operands spent
  iintro ⟨#HK, ⟨Hbar, ⟨Hu0, Hu1, Hu2, Hu3⟩, ⟨HA0, HA1, HA2⟩, ⟨HB0, HB1, HB2⟩, ⟨Hp10, Hp11, Hp12⟩, Hp30, Hp31, Hp32⟩, Hscr, ⟨H0, H1, H2, H3, H4, H5, H6⟩, Hout, HO⟩
  unfold runs
  rw [wp_deviceId]
  iapply (runs_seq c (run_opening (blocks g) K c (Memref.whole cc0_stg0_0) (Memref.whole cc0_stg1_0) (g.x c) (g.wi 0 c) (part_zero g c))) $$ [Hbar Hscr H0 H1 HA0 HO]
  · isplitr; · iexact HK
    isplitl [Hbar]; · iexact Hbar
    isplitl [Hscr]; · iexact Hscr
    isplitl [H0 H1]
    · isplitl [H0] <;> iassumption
    isplitl [HA0] <;> iassumption
  iintro %a ⟨%ha, Hat, ⟨HP0, HR0, HH0⟩, ⟨H0, H1⟩, Hp00, Hf, HO⟩
  obtain rfl : a = own g 0 c := ha
  ihave Hah := (ahead_zip c 0) $$ [Hu3 Hp30 Hu0 Hp00]
  · isplitl [Hu3]; · iexact Hu3
    isplitl [Hp30]; · iexact Hp30
    isplitl [Hu0] <;> iassumption
  ihave Hu1 := (sepL_zip (upto 1 c 0) (fun j => (paid 1 c 0 j : sProp 𝕄)) peers) $$ [Hu1 Hp10]
  · isplitl [Hu1] <;> iassumption
  iapply (runs_seq c (run_middle (blocks g) K c (r := 0) (by decide) (gather_first (blocks g) K c (own g 0 c) (hid_eq g 0 c)) (Memref.whole cc0_stg2_0) (Memref.whole cc0_stg3_0)
    (g.wo 0 c) (g.wi 1 c) (part_succ g 0 c))) $$ [Hu1 HH0 HB0 Hf HO H2 H3 Hah HA1]
  · isplitr; · iexact HK
    isplitl [Hu1 HH0 HB0 Hf HO]
    · isplitr; · iexact HK
      isplitl [Hu1]; · iexact Hu1
      isplitl [HH0]; · iexact HH0
      isplitl [HB0]; · iexact HB0
      isplitl [Hf] <;> iassumption
    isplitl [H2 H3]
    · isplitl [H2] <;> iassumption
    isplitl [Hah] <;> iassumption
  iintro %a ⟨%ha, ⟨Hkept, Hu1, Hp20, -⟩, ⟨H2, H3⟩, ⟨Hu3, Hu0, Hp01⟩, HO⟩
  obtain rfl : a = own g 1 c := ha
  ihave Hah := (ahead_zip c 1) $$ [Hu3 Hp31 Hu0 Hp01]
  · isplitl [Hu3]; · iexact Hu3
    isplitl [Hp31]; · iexact Hp31
    isplitl [Hu0] <;> iassumption
  ihave Hu1 := (sepL_zip (upto 1 c 1) (fun j => (paid 1 c 1 j : sProp 𝕄)) peers) $$ [Hu1 Hp11]
  · isplitl [Hu1] <;> iassumption
  ihave Hu2 := (sepL_zip (upto 2 c 0) (fun j => (paid 2 c 0 j : sProp 𝕄)) peers) $$ [Hu2 Hp20]
  · isplitl [Hu2] <;> iassumption
  iapply (runs_seq c (run_middle (blocks g) K c (r := 1) (by decide) (gather_next (blocks g) K c (r := 0) (by decide) (own g 1 c) (hid_eq g 1 c)) (Memref.whole cc0_stg4_0) (Memref.whole cc0_stg5_0)
    (g.wo 1 c) (g.wi 2 c) (part_succ g 1 c))) $$ [Hu1 Hkept HB1 Hu2 HO H4 H5 Hah HA2]
  · isplitr; · iexact HK
    isplitl [Hu1 Hkept HB1 Hu2 HO]
    · isplitr; · iexact HK
      isplitl [Hu1]; · iexact Hu1
      isplitl [Hkept]; · iexact Hkept
      isplitl [HB1]; · iexact HB1
      isplitl [Hu2] <;> iassumption
    isplitl [H4 H5]
    · isplitl [H4] <;> iassumption
    isplitl [Hah] <;> iassumption
  iintro %a ⟨%ha, ⟨Hkept, Hu1, Hu2, Hp21, -⟩, ⟨H4, H5⟩, ⟨Hu3, Hu0, Hp02⟩, HO⟩
  obtain rfl : a = own g 2 c := ha
  ihave Hah := (ahead_zip c 2) $$ [Hu3 Hp32 Hu0 Hp02]
  · isplitl [Hu3]; · iexact Hu3
    isplitl [Hp32]; · iexact Hp32
    isplitl [Hu0] <;> iassumption
  ihave Hu1 := (sepL_zip (upto 1 c 2) (fun j => (paid 1 c 2 j : sProp 𝕄)) peers) $$ [Hu1 Hp12]
  · isplitl [Hu1] <;> iassumption
  ihave Hu2 := (sepL_zip (upto 2 c 1) (fun j => (paid 2 c 1 j : sProp 𝕄)) peers) $$ [Hu2 Hp21]
  · isplitl [Hu2] <;> iassumption
  iapply (runs_frame c (run_closing (blocks g) K c (own g 2 c) (hid_eq g 2 c) (Memref.whole cc0_stg6_0) (g.wo 2 c) (outAt g c) (outRows g c) (outAt_rows g c) (outRows_self g c)
    (fun j hj => outRows_peer g c hj))) $$ [Hu1 Hkept HB2 Hu2 HO H6 Hout Hah HP0 HR0]
  · isplitr; · iexact HK
    isplitl [Hu1 Hkept HB2 Hu2 HO]
    · isplitl [Hu1]; · iexact Hu1
      isplitl [Hkept]; · iexact Hkept
      isplitl [HB2]; · iexact HB2
      isplitl [Hu2] <;> iassumption
    isplitl [H6 Hout]
    · isplitl [H6] <;> iassumption
    isplitl [Hah]; · iexact Hah
    isplitl [HP0] <;> iassumption
  iintro %u ⟨⟨H6, Hout⟩, Hscr, Hu, HO⟩
  isplitl [Hat Hu]
  · isplitl [Hat] <;> iassumption
  isplitl [Hscr]; · iexact Hscr
  isplitr [Hout HO]
  · isplitl [H0]; · iexact H0
    isplitl [H1]; · iexact H1
    isplitl [H2]; · iexact H2
    isplitl [H3]; · iexact H3
    isplitl [H4]; · iexact H4
    isplitl [H5] <;> iassumption
  isplitl [Hout] <;> iassumption

end Cert.Mlp

end
-- ==== Proof.Tokens.lean ====
/-
  The launch's tokens: which duty tokens are made, and how they are dealt to the devices that pay with them; the invariants of the cells.
-/
module

public import proofs.«01_k».proof.Proof.Body

@[expose] public section

noncomputable section

namespace Cert.Mlp

open Cert.KernelIdeal Cert.KernelIdeal.Gen Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- One conjunct per cell of a device: the entry cell's, then kind by kind. -/
theorem bigSep_cells (Φ : Option (Fin 4 × Fin 16) → sProp 𝕄) : bigSep Finset.univ Φ
    = iprop(Φ none ∗ bigSep Finset.univ (fun k : Fin 4 × Fin 16 => Φ (some k))) := by
  rw [bigSep_univ_at Φ none, show (Finset.univ.erase none : Finset (Option (Fin 4 × Fin 16))) = Finset.univ.map Function.Embedding.some from by decide, bigSep_map]; rfl
theorem bigSep_kinds (Φ : Fin 4 × Fin 16 → sProp 𝕄) : bigSep Finset.univ Φ
    = iprop(bigSep Finset.univ (fun j => Φ (0, j)) ∗ bigSep Finset.univ (fun j => Φ (1, j)) ∗ bigSep Finset.univ (fun j => Φ (2, j)) ∗ bigSep Finset.univ (fun j => Φ (3, j))) := by
  rw [bigSep_univ_prod]; exact bigSep_univ_eq_bigSepL [0, 1, 2, 3] (by decide) (by decide) _

/-! ## The cells and the tokens -/

def protoCells : Finset (GSem nD τ sig) := Finset.univ.map ⟨kcell, kcell_injective⟩

/-- A duty: at a device, for a displacement, the entry's or the one of a kind and a round. -/
abbrev Duty : Type := (Dev nD × Fin 16) × Option (Fin 4 × Fin 3)
/-- Its token: the cell, the round, and the duty's name there. -/
abbrev tokOf (x : Duty) : GSem nD τ sig × ℕ × Fin 16 := match x.2 with
  | none => (barC x.1.1, 0, x.1.2)
  | some (q, r) => (xC x.1.1 q x.1.2, r.val, 0)
theorem tokOf_injective : Function.Injective tokOf := by
  rintro ⟨⟨c, j⟩, o⟩ ⟨⟨c', j'⟩, o'⟩ h
  rcases o with _ | ⟨q, r⟩ <;> rcases o' with _ | ⟨q', r'⟩
  · have h1 := kcell_injective (a₁ := (c, none)) (a₂ := (c', none)) (congrArg Prod.fst h)
    have h2 : j = j' := congrArg (fun x : GSem nD τ sig × ℕ × Fin 16 => x.2.2) h
    obtain ⟨rfl, -⟩ := Prod.mk.inj h1
    rw [h2]
  · have h1 := kcell_injective (a₁ := (c, none)) (a₂ := (c', some (q', j'))) (congrArg Prod.fst h)
    exact absurd (congrArg Prod.snd h1) nofun
  · have h1 := kcell_injective (a₁ := (c, some (q, j))) (a₂ := (c', none)) (congrArg Prod.fst h)
    exact absurd (congrArg Prod.snd h1) nofun
  · have h1 := kcell_injective (a₁ := (c, some (q, j))) (a₂ := (c', some (q', j'))) (congrArg Prod.fst h)
    have h2 : r = r' := Fin.ext (congrArg (fun x : GSem nD τ sig × ℕ × Fin 16 => x.2.1) h)
    obtain ⟨rfl, h3⟩ := Prod.mk.inj h1
    obtain ⟨rfl, rfl⟩ := Prod.mk.inj (Option.some.inj h3)
    rw [h2]
def protoToks : Finset (GSem nD τ sig × ℕ × Fin 16) := Finset.univ.map ⟨tokOf, tokOf_injective⟩

/-- The duties a device pays away from itself: the entry's, and the arrivals. -/
def away (o : Option (Fin 4 × Fin 3)) : Bool := match o with
  | none => true
  | some (q, _) => q == 1 || q == 3
/-- The duties gone through by who pays them. -/
def byPayer : Duty ≃ Duty where
  toFun x := (if away x.2 then (peer x.1.1 x.1.2, -x.1.2) else x.1, x.2)
  invFun x := (if away x.2 then (peer x.1.1 x.1.2, -x.1.2) else x.1, x.2)
  left_inv x := by
    obtain ⟨⟨c, j⟩, o⟩ := x
    cases h : away o <;> simp [h, peer_neg, neg_neg16]
  right_inv x := by
    obtain ⟨⟨c, j⟩, o⟩ := x
    cases h : away o <;> simp [h, peer_neg, neg_neg16]

/-- The token with which device `c` pays a duty at displacement `j`. -/
def payTok (c : Dev nD) (j : Fin 16) (o : Option (Fin 4 × Fin 3)) : sProp (MM F) :=
  dutyTok ER (tokOf (byPayer ((c, j), o))).1 (tokOf (byPayer ((c, j), o))).2.1 (tokOf (byPayer ((c, j), o))).2.2
/-- The tokens device `c` pays with. -/
def payToks (c : Dev nD) : sProp (MM F) := sepL (fun j => bigSep Finset.univ fun o => payTok c j o) peers

theorem toks_deal : bigSep protoToks (fun x => (dutyTok ER x.1 x.2.1 x.2.2 : sProp 𝕄)) ⊢ bigSep Finset.univ fun c : Dev nD => payToks c := by
  have hdrop (P Q : sProp 𝕄) : iprop(P ∗ Q) ⊢ Q := by iintro ⟨-, H⟩; iexact H
  unfold protoToks
  rw [bigSep_map, bigSep_univ_equiv byPayer, bigSep_univ_prod, bigSep_univ_prod]
  refine (show (_ : sProp 𝕄) ⊢ _ from bigSep_mono fun c _ => ?_)
  rw [bigSep_peers]
  unfold payToks payTok
  exact hdrop _ _

/-- The tokens a device pays with, as its body takes them. -/
theorem payToks_split (c : Dev nD) : (payToks c : sProp 𝕄) ⊢ iprop(sepL (fun j => dutyTok ER (barC (peer c j)) 0 (-j)) peers
    ∗ (sepL (toksA c 0) peers ∗ sepL (toksA c 1) peers ∗ sepL (toksA c 2) peers) ∗ (sepL (toksB c 0) peers ∗ sepL (toksB c 1) peers ∗ sepL (toksB c 2) peers)) := by
  have h (j : Fin 16) : bigSep Finset.univ (fun o => (payTok c j o : sProp 𝕄)) ⊢ iprop(dutyTok ER (barC (peer c j)) 0 (-j) ∗ (toksA c 0 j ∗ toksA c 1 j ∗ toksA c 2 j) ∗ (toksB c 0 j ∗ toksB c 1 j ∗ toksB c 2 j)) := by
    rw [bigSep_univ_eq_bigSepL [none, some (0, 0), some (1, 0), some (0, 1), some (1, 1), some (0, 2), some (1, 2), some (2, 0), some (3, 0), some (2, 1), some (3, 1), some (2, 2), some (3, 2)]
      (by decide) (by decide)]
    show iprop(dutyTok ER (barC (peer c j)) 0 (-j)
      ∗ dutyTok ER (xC c 0 j) 0 0 ∗ dutyTok ER (xC (peer c j) 1 (-j)) 0 0 ∗ dutyTok ER (xC c 0 j) 1 0 ∗ dutyTok ER (xC (peer c j) 1 (-j)) 1 0 ∗ dutyTok ER (xC c 0 j) 2 0 ∗ dutyTok ER (xC (peer c j) 1 (-j)) 2 0
      ∗ dutyTok ER (xC c 2 j) 0 0 ∗ dutyTok ER (xC (peer c j) 3 (-j)) 0 0 ∗ dutyTok ER (xC c 2 j) 1 0 ∗ dutyTok ER (xC (peer c j) 3 (-j)) 1 0 ∗ dutyTok ER (xC c 2 j) 2 0 ∗ dutyTok ER (xC (peer c j) 3 (-j)) 2 0) ⊢ _
    unfold toksA toksB
    iintro ⟨Hb, H1, H2, H3, H4, H5, H6, H7, H8, H9, H10, H11, H12⟩
    isplitl [Hb]; · iexact Hb
    isplitl [H1 H2 H3 H4 H5 H6]
    · isplitl [H1 H2]; · isplitl [H1] <;> iassumption
      isplitl [H3 H4]; · isplitl [H3] <;> iassumption
      isplitl [H5] <;> iassumption
    · isplitl [H7 H8]; · isplitl [H7] <;> iassumption
      isplitl [H9 H10]; · isplitl [H9] <;> iassumption
      isplitl [H11] <;> iassumption
  have h3 (Φ : ℕ → Fin 16 → sProp 𝕄) : sepL (fun j => iprop(Φ 0 j ∗ Φ 1 j ∗ Φ 2 j)) peers ⊢ iprop(sepL (Φ 0) peers ∗ sepL (Φ 1) peers ∗ sepL (Φ 2) peers) :=
    (sepL_unzip _ _ _).trans (Laws.sep_mono .rfl (sepL_unzip _ _ _))
  unfold payToks
  refine (sepL_mono peers fun j _ => h j).trans ?_
  refine (sepL_unzip _ _ _).trans (Laws.sep_mono .rfl ?_)
  exact (sepL_unzip _ _ _).trans (Laws.sep_mono (h3 (toksA c)) (h3 (toksB c)))

end Cert.Mlp

end
-- ==== Proof.Credits.lean ====
/-
  What the devices owe one another at the launch is what each of them is credited with.
-/
module

public import proofs.«01_k».proof.Proof.Body

@[expose] public section

noncomputable section

namespace Cert.Mlp

open Cert.KernelIdeal Cert.KernelIdeal.Gen Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- A family over the peers may be gone through with the displacements turned round. -/
theorem sepL_turn (Φ : Fin 16 → sProp 𝕄) : sepL (fun j => Φ (-j)) peers = sepL Φ peers := by
  rw [sepL_eq Φ peers peers_nodup, sepL_eq (fun j => Φ (-j)) peers peers_nodup]
  conv_rhs => rw [show peers.toFinset = peers.toFinset.map turn.toEmbedding by decide, bigSep_map]
  rfl

theorem cred_bar (c : Dev nD) : ∀ l : List (Fin 16), (Pipeline.launchCred (fun d => owedBar d l) c : sProp 𝕄) ⊢ cred (tallyAt (barC c) 0 l.length)
  | [] => by
    rw [show (fun d : Dev nD => owedBar d []) = fun _ => 0 from rfl, Pipeline.launchCred_zero]
    exact Entails.of_eq (by rw [List.length_nil, show (tallyAt (barC c) 0 0 : CellTallies nD τ sig ℕ) = 0 by unfold tallyAt; rw [Finsupp.single_zero, tallyOn_zero], cred_zero])
  | j :: l => by
    rw [show (fun d : Dev nD => owedBar d (j :: l)) = fun d => owedBar d l + tallyAt (barC (peer d j)) 0 1 from rfl, Pipeline.launchCred_add]
    refine (Laws.sep_mono (cred_bar c l) (Pipeline.launchCred_tallyAt (csem none) (fun d => peer d j) (fun d => peer d (-j)) (fun d => peer_neg' d j) (fun d => peer_neg d j) 0 1 c)).trans ?_
    refine (cred_add _ _).2.trans (Entails.of_eq (congrArg cred ?_))
    unfold tallyAt
    rw [← tallyOn_add, ← Finsupp.single_add, List.length_cons]

theorem cred_x (c : Dev nD) (k : ℕ) : ∀ l : List (Fin 16), (Pipeline.launchCred (fun d => owedX d k l) c : sProp 𝕄) ⊢ sepL (fun j => paid (stq k) c (k / 2) (-j)) l
  | [] => by
    rw [show (fun d : Dev nD => owedX d k []) = fun _ => 0 from rfl, Pipeline.launchCred_zero]; exact .rfl
  | j :: l => by
    rw [show (fun d : Dev nD => owedX d k (j :: l)) = fun d => owedX d k l + tallyAt (xC (peer d j) (stq k) (-j)) (k / 2) N from rfl, Pipeline.launchCred_add, sepL_cons]
    refine (Laws.sep_mono (cred_x c k l) (Pipeline.launchCred_tallyAt (csem (some (stq k, -j))) (fun d => peer d j) (fun d => peer d (-j)) (fun d => peer_neg' d j) (fun d => peer_neg d j) (k / 2) N c)).trans ?_
    iintro ⟨H1, H2⟩
    isplitl [H2]; · unfold paid; iexact H2
    iexact H1

/-- What a device owes at the launch. -/
def O₀ (c : Dev nD) : CellTallies nD τ sig ℕ := owedBar c peers + tail c 0

theorem creds (c : Dev nD) : (Pipeline.launchCred O₀ c : sProp 𝕄) ⊢ iprop(cred (tallyAt (barC c) 0 15)
    ∗ (sepL (paid 1 c 0) peers ∗ sepL (paid 1 c 1) peers ∗ sepL (paid 1 c 2) peers) ∗ (sepL (paid 3 c 0) peers ∗ sepL (paid 3 c 1) peers ∗ sepL (paid 3 c 2) peers)) := by
  have hx (k : ℕ) (q : Fin 4) (r : ℕ) (hq : stq k = q) (hr : k / 2 = r) : (Pipeline.launchCred (fun d => owedX d k peers) c : sProp 𝕄) ⊢ sepL (paid q c r) peers := by
    subst hq hr; exact (cred_x c k peers).trans (Entails.of_eq (sepL_turn _))
  rw [show O₀ = fun d => owedBar d peers + ∑ k ∈ Finset.Ico 0 6, owedX d k peers from rfl, Pipeline.launchCred_add, Pipeline.launchCred_sum,
    bigSep_eq_bigSepL_of_eq [0, 1, 2, 3, 4, 5] (by decide) (by decide)]
  show iprop(_ ∗ Pipeline.launchCred (fun d => owedX d 0 peers) c ∗ Pipeline.launchCred (fun d => owedX d 1 peers) c ∗ Pipeline.launchCred (fun d => owedX d 2 peers) c
    ∗ Pipeline.launchCred (fun d => owedX d 3 peers) c ∗ Pipeline.launchCred (fun d => owedX d 4 peers) c ∗ Pipeline.launchCred (fun d => owedX d 5 peers) c) ⊢ _
  iintro ⟨Hb, H0, H1, H2, H3, H4, H5⟩
  isplitl [Hb]
  · iapply (cred_bar c peers); iexact Hb
  isplitl [H0 H2 H4]
  · isplitl [H0]
    · iapply (hx 0 1 0 rfl rfl); iexact H0
    isplitl [H2]
    · iapply (hx 2 1 1 rfl rfl); iexact H2
    · iapply (hx 4 1 2 rfl rfl); iexact H4
  isplitl [H1]
  · iapply (hx 1 3 0 rfl rfl); iexact H1
  isplitl [H3]
  · iapply (hx 3 3 1 rfl rfl); iexact H3
  · iapply (hx 5 3 2 rfl rfl); iexact H5

end Cert.Mlp

end
-- ==== Proof.Alloc.lean ====
/-
  The cells opened at the launch and closed at the end.
-/
module

public import proofs.«01_k».proof.Proof.Tokens
public import proofs.«01_k».proof.Proof.Credits

@[expose] public section

noncomputable section

namespace Cert.Mlp

open Cert.KernelIdeal Cert.KernelIdeal.Gen Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (V : Blocks F)

/-! ## Opening -/

/-- What the launch deals a device. -/
def G (c : Dev nD) : sProp (MM F) :=
  iprop(bigSep Finset.univ (fun k => roundState ER (Rd V) (kcell (c, k)) 0)
    ∗ bigSep Finset.univ (fun k => iprop(atPos ER (kcell (c, k)) 0 ∅ 0 ∗ reached ER (kcell (c, k)) 0)) ∗ payToks c)

theorem fund_cells : BI.own (ER (initOf protoCells protoToks)) ⊢ (|==> bigSep Finset.univ (G V) : sProp 𝕄) := by
  have hX (Φ : GSem nD τ sig → sProp 𝕄) : bigSep protoCells Φ = bigSep Finset.univ fun c : Dev nD => bigSep Finset.univ fun k => Φ (kcell (c, k)) := by
    unfold protoCells; rw [bigSep_map, bigSep_univ_prod]; rfl
  iintro HX
  imod (Rounds.fund ER (Rd V) protoCells protoToks) $$ HX with ⟨Hst, Hr, Hat, Htok⟩
  imodintro
  ihave Hst := (Entails.of_eq (hX fun g => roundState ER (Rd V) g 0)) $$ Hst
  ihave Hat := (Entails.of_eq (hX fun g => atPos ER g 0 ∅ 0)) $$ Hat
  ihave Hr := (Entails.of_eq (hX fun g => reached ER g 0)) $$ Hr
  ihave Htok := (toks_deal (F := F)) $$ Htok
  unfold G; simp only [bigSep_sep']
  isplitl [Hst]; · iexact Hst
  isplitl [Hat Hr]
  · isplitl [Hat] <;> iassumption
  iexact Htok

theorem unscopedSems0_eq (c : Dev nD) : (unscopedSems0 c : sProp 𝕄) = semVal (barC c) 0 := by
  unfold unscopedSems0; rw [bigSep_eq_bigSepL_of_eq [SemLoc.reg barS] (by decide) (by decide)]; rfl
/-- The semaphores the launch deals at zero are the protocol's. -/
theorem sems_eq (c : Dev nD) : (bigSep Finset.univ fun k => semVal (kcell (c, k)) 0 : sProp 𝕄)
    = iprop(unscopedSems0 c ∗ Pipeline.ownSems0 (Ix := ℕ) (Name := ℕ) (U := UU) (Lvl := ℕ) (Val := Elt F) (τ := τ) osem c) := by
  rw [bigSep_cells, unscopedSems0_eq]; rfl

theorem core_alloc (c : Dev nD) :
    iprop(Pipeline.ownSems0 (Ix := ℕ) (Name := ℕ) (U := UU) (Lvl := ℕ) (Val := Elt F) (τ := τ) osem c ∗ unscopedSems0 c ∗ G V c)
      ⊢ |={Set.univ}=> iprop(bigSep Finset.univ (fun k => iprop(∃ κ : ℕ, cellInv ER (Rd V) κ (kcell (c, k))))
          ∗ bigSep Finset.univ (fun k => iprop(atPos ER (kcell (c, k)) 0 ∅ 0 ∗ reached ER (kcell (c, k)) 0)) ∗ payToks c) := by
  unfold G
  iintro ⟨Hos, Hus, Hst, Hat, Htok⟩
  ihave Hv := (Entails.of_eq (sems_eq (F := F) c).symm) $$ [Hos Hus]
  · isplitl [Hus] <;> iassumption
  imod (show iprop(bigSep Finset.univ (fun k => semVal (kcell (c, k)) 0) ∗ bigSep Finset.univ (fun k => roundState ER (Rd V) (kcell (c, k)) 0))
      ⊢ (|={Set.univ}=> bigSep Finset.univ fun k => iprop(∃ κ : ℕ, cellInv ER (Rd V) κ (kcell (c, k))) : sProp 𝕄) from by
        rw [← bigSep_sep']
        exact (bigSep_mono fun k _ => (Rounds.body_intro ER (Rd V) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The invariants of the cells and that round 0 is reached, of every device. -/
def records (K : Dev nD × Option (Fin 4 × Fin 16) → ℕ) : sProp (MM F) :=
  iprop(bigSep Finset.univ (fun ck => cellInv ER (Rd V) (K ck) (kcell ck)) ∗ bigSep Finset.univ (fun ck => reached ER (kcell ck) 0))
instance records_persistent (K : Dev nD × Option (Fin 4 × Fin 16) → ℕ) : BI.Persistent (records V K) := by unfold records; infer_instance

/-- What a device holds once the cells are opened. -/
def linear (c : Dev nD) : sProp (MM F) := iprop(bigSep Finset.univ (fun k => atPos ER (kcell (c, k)) 0 ∅ 0) ∗ payToks c)
def G' (c : Dev nD) : sProp (MM F) := iprop(∃ K, records V K ∗ linear c)

theorem regroup :
    (bigSep Finset.univ fun c : Dev nD => iprop(bigSep Finset.univ (fun k => iprop(∃ κ : ℕ, cellInv ER (Rd V) κ (kcell (c, k))))
          ∗ bigSep Finset.univ (fun k => iprop(atPos ER (kcell (c, k)) 0 ∅ 0 ∗ reached ER (kcell (c, k)) 0)) ∗ payToks c) : sProp 𝕄)
      ⊢ bigSep Finset.univ (G' V) := by
  rw [bigSep_sep', bigSep_sep', ← bigSep_univ_prod (fun ck : Dev nD × Option (Fin 4 × Fin 16) => iprop(∃ κ : ℕ, cellInv ER (Rd V) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : Dev nD × Option (Fin 4 × Fin 16) => (reached ER (kcell ck) 0 : sProp 𝕄))]
  iintro ⟨HI, ⟨Hat, #HR⟩, Htok⟩
  ihave HK := (BI.bigSep_exists_pi Finset.univ (fun (ck : Dev nD × Option (Fin 4 × Fin 16)) (κ : ℕ) => (cellInv ER (Rd V) κ (kcell ck) : sProp 𝕄))) $$ HI
  icases HK with ⟨%K, #HI⟩
  iapply (bigSep_with_persistent (R := records V K) (Φ := linear) (Ψ := G' V) (fun c _ => show (iprop(records V K ∗ linear c) : sProp 𝕄) ⊢ G' V c from by
    unfold G'; iintro H; iexists K; iexact H))
  isplitr
  · unfold records; isplitl; · iexact HI
    iexact HR
  · unfold linear
    rw [bigSep_sep']
    isplitl [Hat] <;> iassumption

/-- Every device's cells opened at once. -/
theorem glob : (bigSep Finset.univ fun c => iprop(Pipeline.ownSems0 (Ix := ℕ) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

/-- A device's positions at the cells of displacement 0, which nothing uses. -/
def idle (c : Dev nD) : sProp (MM F) := iprop(upto 0 c 0 0 ∗ upto 1 c 0 0 ∗ upto 2 c 0 0 ∗ upto 3 c 0 0)
/-- What a device's body starts from, besides its buffers. -/
def start (c : Dev nD) : sProp (MM F) := iprop(∃ K, know V K ∗ gear c ∗ idle c)

theorem positions (c : Dev nD) : (bigSep Finset.univ fun k => atPos ER (kcell (c, k)) 0 ∅ 0 : sProp 𝕄)
    ⊢ iprop(atPos ER (barC c) 0 ∅ 0 ∗ (sepL (upto 0 c 0) peers ∗ sepL (upto 1 c 0) peers ∗ sepL (upto 2 c 0) peers ∗ sepL (upto 3 c 0) peers) ∗ idle c) := by
  rw [bigSep_cells, bigSep_kinds, bigSep_peers, bigSep_peers, bigSep_peers, bigSep_peers]
  unfold idle upto
  iintro ⟨Hb, ⟨I0, H0⟩, ⟨I1, H1⟩, ⟨I2, H2⟩, I3, H3⟩
  isplitl [Hb]; · iexact Hb
  isplitl [H0 H1 H2 H3]
  · isplitl [H0]; · iexact H0
    isplitl [H1]; · iexact H1
    isplitl [H2]; · iexact H2
    iexact H3
  · isplitl [I0]; · iexact I0
    isplitl [I1]; · iexact I1
    isplitl [I2]; · iexact I2
    iexact I3

theorem start_of (c : Dev nD) : iprop(levAts L lv ∗ Pipeline.launchCred O₀ c ∗ G' V c) ⊢ (start V c : sProp 𝕄) := by
  unfold G' start linear records
  iintro ⟨Hlev, Hcr, ⟨%K, ⟨HI, HR⟩, Hat, Htk⟩⟩
  iexists K
  isplitl [HI HR Hlev]
  · unfold know
    isplitl [HI]; · iexact HI
    isplitl [HR]; · iexact HR
    iexact Hlev
  ihave Hc := (creds (F := F) c) $$ Hcr
  icases Hc with ⟨Hcb, Hp1, Hp3⟩
  ihave Hat := (positions (F := F) c) $$ Hat
  icases Hat with ⟨Hb, Hu, Hi⟩
  ihave Htk := (payToks_split (F := F) c) $$ Htk
  icases Htk with ⟨Htb, HA, HB⟩
  isplitr [Hi]
  · unfold gear
    isplitl [Hcb Hb Htb]
    · isplitl [Hcb]; · iexact Hcb
      isplitl [Hb] <;> iassumption
    isplitl [Hu]; · iexact Hu
    isplitl [HA]; · iexact HA
    isplitl [HB]; · iexact HB
    isplitl [Hp1] <;> iassumption
  iexact Hi

/-! ## Closing -/

theorem duties_bar_late (c : Dev nD) : ∀ r, 1 ≤ r → (Rd V).duties (barC c) r = ∅ := fun r hr => by
  rw [duties_cell]; unfold dutiesOf; rw [if_neg (by omega)]

/-- A device's position at a cell past its last round. -/
def past (c : Dev nD) (k : Option (Fin 4 × Fin 16)) : sProp (MM F) := iprop(∃ R, ⌜∀ r, R ≤ r → (Rd V).duties (kcell (c, k)) r = ∅⌝ ∗ atPos ER (kcell (c, k)) R ∅ 0)

theorem all_past (c : Dev nD) : iprop(spent c ∗ idle c) ⊢ (bigSep Finset.univ (past V c) : sProp 𝕄) := by
  have h (q : Fin 4) : iprop(upto q c 0 0 ∗ sepL (upto q c 3) peers) ⊢ (bigSep Finset.univ (fun j => past V c (some (q, j))) : sProp 𝕄) := by
    rw [bigSep_peers]
    refine Laws.sep_mono ?_ (sepL_mono peers fun j _ => ?_)
    · unfold upto past; iintro H; iexists 0; isplitr; · ipureintro; exact duties_x_zero V c q
      iexact H
    · unfold upto past; iintro H; iexists 3; isplitr; · ipureintro; exact duties_x_late V c q j
      iexact H
  rw [bigSep_cells, bigSep_kinds]
  unfold spent idle
  iintro ⟨⟨Hb, H0, H1, H2, H3⟩, I0, I1, I2, I3⟩
  isplitl [Hb]
  · unfold past; iexists 1; isplitr; · ipureintro; exact duties_bar_late V c
    iexact Hb
  isplitl [I0 H0]; · iapply (h 0); isplitl [I0] <;> iassumption
  isplitl [I1 H1]; · iapply (h 1); isplitl [I1] <;> iassumption
  isplitl [I2 H2]; · iapply (h 2); isplitl [I2] <;> iassumption
  iapply (h 3); isplitl [I3] <;> iassumption

theorem close_all (K : Dev nD × Option (Fin 4 × Fin 16) → ℕ) (c : Dev nD) :
    iprop(know V K ∗ spent c ∗ idle c) ⊢ (|={Set.univ}=> bigSep Finset.univ (fun k => semVal (kcell (c, k)) 0) : sProp 𝕄) := by
  refine (Laws.sep_mono .rfl (all_past V c)).trans ?_
  refine BIBase.Entails.trans ?_ (bigSep_fupd _ _)
  refine bigSep_with_persistent fun k _ => ?_
  unfold past
  iintro ⟨#HK, ⟨%R, %hR, Hat⟩⟩
  imod (Rounds.cell_close ER (Rd V) (Set.mem_univ (K (c, k))) (fun h => h) (R := R) hR) $$ [Hat] with Hz
  · isplitr; · iapply (know_inv V K c k); iexact HK
    iexact Hat
  imodintro
  iexact Hz

end Cert.Mlp

end
-- ==== Proof.LoopEq.lean ====
/- The printed body is the looped one. -/
module

public import proofs.«01_k».proof.Proof.Loop

@[expose] public section

noncomputable section

namespace Cert.Mlp

open Cert.KernelIdeal Cert.KernelIdeal.Gen Idealize.ShloMosaic Idealize.SL.Sem

variable {F : FTy → Type} [FloatOps F]

variable (arg0 : Memref sig .tc .vmem S512x256 .f32) (harg0 : arg0.IsWhole) (arg1 : Memref sig .tc .vmem S256x512 .f32) (harg1 : arg1.IsWhole)
  (arg2 : Memref sig .tc .vmem S512x256 .f32) (harg2 : arg2.IsWhole) (arg3 : Memref sig .tc .vmem S256x512 .f32) (harg3 : arg3.IsWhole)
  (arg4 : Memref sig .tc .vmem S512x256 .f32) (harg4 : arg4.IsWhole) (arg5 : Memref sig .tc .vmem S256x512 .f32) (harg5 : arg5.IsWhole)
  (arg6 : Memref sig .tc .vmem S512x256 .f32) (harg6 : arg6.IsWhole) (arg7 : Memref sig .tc .vmem S512x256 .f32) (harg7 : arg7.IsWhole)
  (arg8 : Memref sig .tc .vmem S512x512 .bf16) (harg8 : arg8.IsWhole) (arg9 : Memref sig .tc .vmem S16x32x512 .bf16) (harg9 : arg9.IsWhole)
  (arg10 : Memref sig .tc .vmem S512x512 .bf16) (harg10 : arg10.IsWhole)
  (arg11 : DmaSems sig S16) (arg12 : DmaSems sig S16) (arg13 : DmaSems sig S16) (arg14 : DmaSems sig S16)

set_option maxRecDepth 65536 in
set_option maxHeartbeats 0 in
/-- The printed body is the looped one: the loops run through, line by line, to the printed sequence. -/
theorem body_eq : cc0_body (F := F) arg0 harg0 arg1 harg1 arg2 harg2 arg3 harg3 arg4 harg4 arg5 harg5 arg6 harg6 arg7 harg7 arg8 harg8 arg9 harg9 arg10 harg10 arg11 arg12 arg13 arg14
    = looped arg0 arg1 arg2 arg3 arg4 arg5 arg6 arg7 arg8 harg8 arg9 harg9 arg10 harg10 arg11 arg12 arg13 arg14 := rfl

end Cert.Mlp

end
-- ==== Proof.Datum.lean ====
/-
  The pipeline's record of the call: what each device's buffers hold before and after the body, what it owes, and that the body does so.
-/
module

public import proofs.«01_k».proof.Proof.Alloc
public import proofs.«01_k».proof.Proof.LoopEq
public import proofs.«01_k».proof.Proof.Gen.KernelIdeal.Points

@[expose] public section

noncomputable section

namespace Cert.Mlp

open Cert.KernelIdeal Cert.KernelIdeal.Gen Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat Cfg Window BodyObligation)

variable (m : (ℓ : Loc nD τ sig) → Buf (Elt F) ℓ) (ρ : Dev nD → PrngReg)

/-- The launch: a memory, every counter at zero. -/
abbrev s₀ : MemSt nD τ sig (Elt F) := ⟨m, fun _ => 0, ρ⟩

/-- What device `c` finds staged. -/
def stage0 (c : Dev nD) : (cc0_stg0_0 : Ref sig .tc).ty.Contents (Elt F) := (win0_0.blk (0 : Fin 1)).view.read (Elt F) (m ((c.tc : Thread nD τ).loc main_arg0))
def stage1 (c : Dev nD) : (cc0_stg1_0 : Ref sig .tc).ty.Contents (Elt F) := (win0_1.blk (0 : Fin 1)).view.read (Elt F) (m ((c.tc : Thread nD τ).loc main_arg1))
def stage2 (c : Dev nD) : (cc0_stg2_0 : Ref sig .tc).ty.Contents (Elt F) := (win0_2.blk (0 : Fin 1)).view.read (Elt F) (m ((c.tc : Thread nD τ).loc main_arg2))
def stage3 (c : Dev nD) : (cc0_stg3_0 : Ref sig .tc).ty.Contents (Elt F) := (win0_3.blk (0 : Fin 1)).view.read (Elt F) (m ((c.tc : Thread nD τ).loc main_arg3))
def stage4 (c : Dev nD) : (cc0_stg4_0 : Ref sig .tc).ty.Contents (Elt F) := (win0_4.blk (0 : Fin 1)).view.read (Elt F) (m ((c.tc : Thread nD τ).loc main_arg4))
def stage5 (c : Dev nD) : (cc0_stg5_0 : Ref sig .tc).ty.Contents (Elt F) := (win0_5.blk (0 : Fin 1)).view.read (Elt F) (m ((c.tc : Thread nD τ).loc main_arg5))
def stage6 (c : Dev nD) : (cc0_stg6_0 : Ref sig .tc).ty.Contents (Elt F) := (win0_6.blk (0 : Fin 1)).view.read (Elt F) (m ((c.tc : Thread nD τ).loc main_arg6))

/-- The operands of the whole mesh. -/
def given : Given F where
  x := stage0 m
  wi := fun | 0 => stage1 m | 1 => stage3 m | _ => stage5 m
  wo := fun | 0 => stage2 m | 1 => stage4 m | _ => stage6 m

/-- Before the body, and after it. -/
def Φ₀ (c : Dev nD) : sProp (MM F) := iprop(start (blocks (given m)) c ∗ scratch c)
def Φ₁ (c : Dev nD) : sProp (MM F) := iprop(bigSep Finset.univ (fun k => semVal (kcell (c, k)) 0) ∗ scratch c)

def dats (_ : Fin 1) (c : Dev nD) : Dat τ (Elt F) ℕ ℕ UU ℕ cfg0 c where
  A w := m ((cfg0.win w).arr.view.loc (c.tc : Thread nD τ))
  after w _ := match w with
    | ⟨0, _⟩ => stage0 m c
    | ⟨1, _⟩ => stage1 m c
    | ⟨2, _⟩ => stage2 m c
    | ⟨3, _⟩ => stage3 m c
    | ⟨4, _⟩ => stage4 m c
    | ⟨5, _⟩ => stage5 m c
    | ⟨6, _⟩ => stage6 m c
    | ⟨7, _⟩ => outAt (given m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-- The body's precondition and postcondition in the pipeline's terms. -/
def bodyPre (c : Dev nD) : sProp (MM F) :=
  iprop(Φ₀ m c ∗ (dats m 0 c).owesAt 0 t0_0.castSucc
    ∗ (∃ d, ownsTc c (Memref.whole cc0_stg0_0) fullShare ((dats m 0 c).before (0 : Fin 8) t0_0 d))
    ∗ (∃ d, ownsTc c (Memref.whole cc0_stg1_0) fullShare ((dats m 0 c).before (1 : Fin 8) t0_0 d))
    ∗ (∃ d, ownsTc c (Memref.whole cc0_stg2_0) fullShare ((dats m 0 c).before (2 : Fin 8) t0_0 d))
    ∗ (∃ d, ownsTc c (Memref.whole cc0_stg3_0) fullShare ((dats m 0 c).before (3 : Fin 8) t0_0 d))
    ∗ (∃ d, ownsTc c (Memref.whole cc0_stg4_0) fullShare ((dats m 0 c).before (4 : Fin 8) t0_0 d))
    ∗ (∃ d, ownsTc c (Memref.whole cc0_stg5_0) fullShare ((dats m 0 c).before (5 : Fin 8) t0_0 d))
    ∗ (∃ d, ownsTc c (Memref.whole cc0_stg6_0) fullShare ((dats m 0 c).before (6 : Fin 8) t0_0 d))
    ∗ (∃ d, ownsTc c Om fullShare ((dats m 0 c).before (7 : Fin 8) t0_0 d)))
def bodyPost (c : Dev nD) : sProp (MM F) :=
  iprop(Φ₁ c ∗ (dats m 0 c).owesAt 0 t0_0.succ
    ∗ ownsTc c (Memref.whole cc0_stg0_0) fullShare (stage0 m c) ∗ ownsTc c (Memref.whole cc0_stg1_0) fullShare (stage1 m c) ∗ ownsTc c (Memref.whole cc0_stg2_0) fullShare (stage2 m c)
    ∗ ownsTc c (Memref.whole cc0_stg3_0) fullShare (stage3 m c) ∗ ownsTc c (Memref.whole cc0_stg4_0) fullShare (stage4 m c) ∗ ownsTc c (Memref.whole cc0_stg5_0) fullShare (stage5 m c)
    ∗ ownsTc c (Memref.whole cc0_stg6_0) fullShare (stage6 m c) ∗ ownsTc c Om fullShare (outAt (given m) c))

theorem before_0 (c : Dev nD) (d) : (dats m 0 c).before (0 : Fin 8) t0_0 d = stage0 m c := by unfold Dat.before; rw [if_pos (fetch0_0 t0_0)]; rfl
theorem before_1 (c : Dev nD) (d) : (dats m 0 c).before (1 : Fin 8) t0_0 d = stage1 m c := by unfold Dat.before; rw [if_pos (fetch0_1 t0_0)]; rfl
theorem before_2 (c : Dev nD) (d) : (dats m 0 c).before (2 : Fin 8) t0_0 d = stage2 m c := by unfold Dat.before; rw [if_pos (fetch0_2 t0_0)]; rfl
theorem before_3 (c : Dev nD) (d) : (dats m 0 c).before (3 : Fin 8) t0_0 d = stage3 m c := by unfold Dat.before; rw [if_pos (fetch0_3 t0_0)]; rfl
theorem before_4 (c : Dev nD) (d) : (dats m 0 c).before (4 : Fin 8) t0_0 d = stage4 m c := by unfold Dat.before; rw [if_pos (fetch0_4 t0_0)]; rfl
theorem before_5 (c : Dev nD) (d) : (dats m 0 c).before (5 : Fin 8) t0_0 d = stage5 m c := by unfold Dat.before; rw [if_pos (fetch0_5 t0_0)]; rfl
theorem before_6 (c : Dev nD) (d) : (dats m 0 c).before (6 : Fin 8) t0_0 d = stage6 m c := by unfold Dat.before; rw [if_pos (fetch0_6 t0_0)]; rfl

theorem runs_fupd (c : Dev nD) {α : Type} (p : TcProg F α) (Q : α → sProp 𝕄) : runs c p (fun a => iprop(|={Set.univ}=> Q a)) ⊢ runs c p Q := wp_fupd _ _ _ p Q
/-- The kernel's body run in the pipeline's terms. -/
theorem sound_body (c : Dev nD) : bodyPre m c ⊢ runs c (loopedAt (F := F)) (fun _ => bodyPost m c) := by
  refine BIBase.Entails.trans ?_ (runs_fupd c (loopedAt (F := F)) (fun _ => bodyPost m c))
  unfold bodyPre Φ₀ start Dat.owesAt Pipeline.owesWithin
  iintro ⟨⟨⟨%K, #HK, Hg, Hi⟩, Hscr⟩, ⟨%W, -, HO⟩, ⟨%d0, H0⟩, ⟨%d1, H1⟩, ⟨%d2, H2⟩, ⟨%d3, H3⟩, ⟨%d4, H4⟩, ⟨%d5, H5⟩, ⟨%d6, H6⟩, %d7, H7⟩
  rw [before_0, before_1, before_2, before_3, before_4, before_5, before_6]
  iapply (runs_frame c (run_body (given m) K c)) $$ [Hg Hscr HO H0 H1 H2 H3 H4 H5 H6 H7]
  · isplitr; · iexact HK
    isplitl [Hg]; · iexact Hg
    isplitl [Hscr]; · iexact Hscr
    isplitr [H7 HO]
    · unfold operands
      isplitl [H0]; · iexact H0
      isplitl [H1]; · iexact H1
      isplitl [H2]; · iexact H2
      isplitl [H3]; · iexact H3
      isplitl [H4]; · iexact H4
      isplitl [H5]; · iexact H5
      iexact H6
    isplitl [H7]
    · iapply (owns_free c Om _); iexact H7
    · unfold owing; iexists W; iexact HO
  unfold operands owing
  iintro %u ⟨Hs, Hscr, ⟨H0, H1, H2, H3, H4, H5, H6⟩, H7, ⟨%W', HO⟩⟩
  imod (close_all (blocks (given m)) K c) $$ [Hs Hi] with Hz
  · isplitr; · iexact HK
    isplitl [Hs] <;> iassumption
  imodintro
  unfold bodyPost Φ₁ Dat.owesAt Pipeline.owesWithin
  isplitl [Hz Hscr]
  · isplitl [Hz] <;> iassumption
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body as the pipeline calls it. -/
theorem called : (defs₀ (F := F)) .tc cfg0.body (cfg0.bodyArgs t0_0 (cfg0.slots t0_0)) = loopedAt (F := F) := by
  show bodyAt0 (F := F) t0_0 = _
  unfold bodyAt0
  rw [body_eq]

set_option maxRecDepth 8000 in
/-- The pipeline's obligation on the body. -/
theorem body_obligation (c : Dev nD) : BodyObligation (dats (F := F) m 0 c) (defs₀ (F := F)) Variants.none 0 Set.univ := fun t => by
  rw [show t = t0_0 from fin_N0 t]
  rw [bigSep_W0, bigSep_W0, called]
  generalize hp : loopedAt (F := F) = p
  have h : bodyPre m c ⊢ runs c p (fun _ => bodyPost m c) := hp ▸ sound_body m c
  exact h

end Cert.Mlp

end
-- ==== Proof.Launch.lean ====
/-
  The kernel's run: from any memory with every counter at zero, every execution ends, with the result array at the values computed and the operands as they were.
-/
module

public import proofs.«01_k».proof.Proof.Datum
public import Idealize.ShloMosaic.Lib.Pipeline.CollectiveSegs

@[expose] public section

noncomputable section

namespace Cert.Mlp

open Cert.KernelIdeal Cert.KernelIdeal.Gen Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat Cfg Window BodyObligation)

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m 0 c).share w = fullShare := by unfold Dat.share; split <;> rfl

def u₀ : UU := (initOf (Pipeline.cells cfgs cellOf_inj) (Pipeline.launchToks cfgs cellOf_inj), initOf protoCells protoToks)

theorem start_intro (c : Dev nD) :
    iprop(Pipeline.unscopedRestP Pipeline.Prefetch.none cfg0.spec c (fun b => m ((c.tc : Thread nD τ).loc b)) ∗ levAts L lv
        ∗ Pipeline.launchCred O₀ c ∗ prngReg c (ρ c) ∗ G' (blocks (given m)) c)
      ⊢ |={Set.univ}=> iprop(start (blocks (given m)) c ∗ emp) := by
  iintro ⟨-, Hlev, Hcr, -, HG⟩
  imodintro
  isplitl
  · iapply (start_of (blocks (given m)) c)
    isplitl [Hlev]; · iexact Hlev
    isplitl [Hcr] <;> iassumption
  · iempintro

/-- The scratch buffers, as the launch deals them. -/
theorem scratch_eq (c : Dev nD) : (Pipeline.scopedRest (Ix := ℕ) (Name := ℕ) (U := UU) (Lvl := ℕ) (Val := Elt F) cfg0.spec c : sProp 𝕄) = scratch c := by
  rw [scopedRest0_eq]
  unfold scratch free
  simp only [ownsTc, owns_whole]
  rfl

theorem phi0_intro (c : Dev nD) :
    iprop(start (blocks (given m)) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scratch_eq]
  unfold Φ₁
  rw [sems_eq]
  iintro ⟨⟨Hu, Ho⟩, Hs⟩
  isplitl [Hu]; · iexact Hu
  isplitl [Ho] <;> iassumption

theorem lv_staging (w : Fin 8) (s : Fin (cfg0.win w).nbuf) (c : Dev nD) : lv ((c.tc : Thread nD τ), SemLoc.dma ((cfg0.win w).sem s)) 0 ≤ 0 := by
  fin_cases w <;> fin_cases s <;> exact Nat.le_refl 0

theorem waits (c : Dev nD) : (levAts L lv : sProp 𝕄) ⊢ Pipeline.cellsWaits cfgs (dats m) 0 0 c :=
  Pipeline.cellsWaits_intro cfgs (dats m) 0 0 c fun w s t =>
    mayWait c _ (by decide) (lv_staging w s c) (by
      rcases t with ⟨_ | _, ht⟩
      · exact Above.add (O := owedBar c peers) (above_owedBar c peers) (above_tail c (by decide))
      · exact Above.zero 0)

/-- A window's array after the run. -/
def finalA (c : Dev nD) (w : Fin cfg0.W) : Buf (Elt F) ((cfg0.win w).arr.view.loc (c.tc : Thread nD τ)) := (dats m 0 c).arrAt w cfg0.N

def QC : PUnit × MemSt nD τ sig (Elt F) → Prop := fun r =>
  ∀ c : Dev nD, ∀ w : Fin cfg0.W, r.2.mem ((cfg0.win w).arr.view.loc (c.tc : Thread nD τ)) = finalA m c w

set_option maxRecDepth 65536 in
/-- For any float values, from any memory with zero counters: every weakly fair execution ends, each window's array then at its final contents and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (blocks (given m))) (G' := G' (blocks (given m))) (u₀ := u₀)
    (hu₀ := by
      unfold u₀
      iintro Hu
      ihave H := (ownU_pair _ _) $$ Hu
      icases H with ⟨HP, HX⟩
      imod (fund_cells (blocks (given m))) $$ HX with HG
      imodintro
      isplitl [HP] <;> iassumption)
    (hglob := glob (blocks (given m)))
    (hA := fun _ _ => rfl) (hpf := fun _ k => k.elim0)
    (X := start (blocks (given m))) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Mlp

end
-- ==== Proof.Ends.lean ====
/-
  What the arrays hold when the kernel is done: the operands as they were, the result as computed.
-/
module

public import proofs.«01_k».proof.Proof.Launch
public import Idealize.ShloMosaic.Lib.Pipeline.ValueKit

@[expose] public section

noncomputable section

namespace Cert.Mlp

open Cert.KernelIdeal Cert.KernelIdeal.Gen Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

set_option maxRecDepth 16384

/-- An operand's array is unchanged. -/
theorem finalA_in (c : Dev nD) (w : Fin cfg0.W) (hw : (cfg0.win w).isOut = false) : finalA m c w = m ((cfg0.win w).arr.view.loc (c.tc : Thread nD τ)) :=
  (dats m 0 c).arrAt_in w hw _

/-- The result's array holds what the body left staged. -/
theorem finalA_out (c : Dev nD) : finalA m c (7 : Fin 8) = outAt (given m) c := by
  refine (dats m 0 c).arrAt_eq_of_after_last (7 : Fin 8) t0_0 (by decide +kernel) _ fun j => ?_
  blk_simp
  rfl

/-- The kernel's run, buffer by buffer. -/
theorem run_ends : θ_run defs (onTc (τ := τ) (main (F := F))) (s₀ m ρ) (fun r => (∀ c : Dev nD,
      r.2.mem ((c.tc : Thread nD τ).loc main_v1) = outAt (given m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c (7 : Fin 8)).trans (finalA_out m c),
    (h.1 c (0 : Fin 8)).trans (finalA_in m c _ rfl), (h.1 c (1 : Fin 8)).trans (finalA_in m c _ rfl), (h.1 c (2 : Fin 8)).trans (finalA_in m c _ rfl),
    (h.1 c (3 : Fin 8)).trans (finalA_in m c _ rfl), (h.1 c (4 : Fin 8)).trans (finalA_in m c _ rfl), (h.1 c (5 : Fin 8)).trans (finalA_in m c _ rfl),
    (h.1 c (6 : Fin 8)).trans (finalA_in m c _ rfl)⟩, h.2⟩) (run_main m ρ)

end Cert.Mlp

end
-- ==== Proof.Frames.lean ====
/-
  The kernel ends with its operands unchanged and every counter at zero, over machine floats and over exact ones; so does the reference.
-/
module

public import proofs.«01_k».proof.Proof.Ends
public import proofs.«01_k».proof.Defs
public import proofs.«01_k».proof.Proof.Gen.Kernel
public import proofs.«01_k».proof.Proof.Gen.ReferenceIdeal.Run
public import Idealize.ShloMosaic.Lib.Claim

@[expose] public section

noncomputable section

namespace Cert.Mlp

open Idealize.ShloMosaic Idealize.SL.Sem

theorem run_frame {F : FTy → Type} [FloatOps F] (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r => (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) ∧ r.2.sem = fun _ => 0) :=
  (θ_run Cert.KernelIdeal.defs _ _).mono (fun _ h => ⟨fun c => (h.1 c).2, h.2⟩) (run_ends m ρ)

theorem frame_ideal : Cert.quiescent_KernelIdeal := fun m ρ _ => run_frame (F := Ideal) m ρ

set_option maxRecDepth 65536 in
/-- The two programs have the same text. -/
theorem same_bodies : (Cert.Kernel.defs₀ (F := Bits)) = Cert.KernelIdeal.defs₀ (F := Bits) := by
  refine congrArg Defs.onTc (funext fun k => funext fun a => ?_)
  match k, a with
  | 0, (t, s) => exact rfl
  | ⟨_ + 1, h⟩, _ => exact absurd h (Nat.not_lt.2 (Nat.le_add_left _ _))

theorem same_defs : (Cert.Kernel.defs (F := Bits)) = Cert.KernelIdeal.defs (F := Bits) := congrArg (Pipeline.defs (Cert.KernelIdeal.pcfgs (F := Bits))) same_bodies

/-- So the run of one is the run of the other. -/
theorem frame_kernel : Cert.quiescent_Kernel := fun m ρ _ => by
  rw [same_defs]
  exact run_frame (F := Bits) m ρ

theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Mlp

end
-- ==== Proof.Exact.lean ====
/-
  The network over exact numbers, entry by entry, and the sums its devices make of it.
-/
module

public import proofs.«01_k».proof.Proof.Values
public import Idealize.ShloMosaic.Lib.Pointwise

@[expose] public section

noncomputable section

namespace Cert.Mlp

open Cert.KernelIdeal Cert.KernelIdeal.Gen Idealize.ShloMosaic

/-- The input and the layers' matrices, whole. -/
structure Net where
  x : Fin 512 → Fin 4096 → EReal
  wi : ℕ → Fin 4096 → Fin 512 → EReal
  wo : ℕ → Fin 512 → Fin 4096 → EReal

/-- A device's row of the whole, and its column. -/
def row (d : Dev nD) (a : Fin 32) : Fin 512 := ⟨32 * d.val + a.val, by have h : d.val < 16 := d.isLt; omega⟩
def col (c : Dev nD) (q : Fin 256) : Fin 4096 := ⟨256 * c.val + q.val, by have h : c.val < 16 := c.isLt; omega⟩

/-- Every row is a device's. -/
theorem row_surj (i : Fin 512) : ∃ d a, row d a = i :=
  ⟨(⟨i.val / 32, by omega⟩ : Fin 16), ⟨i.val % 32, by omega⟩, Fin.ext (Nat.div_add_mod _ _)⟩

/-- A sum over all the columns is the sum over the devices of the sums over theirs. -/
theorem sum_cols (f : Fin 4096 → EReal) : ∑ q, f q = ∑ d : Dev nD, ∑ q : Fin 256, f (col d q) := by
  have h := Fintype.sum_equiv (finProdFinEquiv (m := 16) (n := 256)) (fun p => f (col p.1 p.2)) f fun p => congrArg f (Fin.ext (Nat.add_comm _ _))
  rw [← h, Fintype.sum_prod_type]

/-- A device's own term and its peers' make the sum over all devices. -/
theorem sum_peers (c : Dev nD) (p : Dev nD → EReal) : peers.foldl (fun a j => a + p (peer c j)) (p c) = ∑ d, p d := by
  rw [← Equiv.sum_comp (around c) p, Fin.sum_univ_succ]
  show _ = p (peer c 0) + _
  rw [peer_zero]
  have h (l : List (Fin 16)) (a : EReal) : l.foldl (fun a j => a + p (peer c j)) a = a + (l.map fun j => p (peer c j)).sum := by
    induction l generalizing a with
    | nil => exact (add_zero a).symm
    | cons j l ih => rw [List.foldl_cons, ih, List.map_cons, List.sum_cons, add_assoc]
  rw [h, ← List.sum_ofFn]
  rfl

namespace Net

variable (n : Net)

/-- The hidden layers, and what goes into them. -/
def hidden : ℕ → Fin 512 → Fin 512 → EReal
  | 0 => fun i k => max (∑ q, n.x i q * n.wi 0 q k) 0
  | r + 1 => fun i k => max (∑ q, (∑ p, hidden r i p * n.wo r p q) * n.wi (r + 1) q k) 0
def into : ℕ → Fin 512 → Fin 4096 → EReal
  | 0 => n.x
  | r + 1 => fun i q => ∑ p, n.hidden r i p * n.wo r p q
theorem hidden_eq (r : ℕ) (i k : Fin 512) : n.hidden r i k = max (∑ q, n.into r i q * n.wi r q k) 0 := by cases r <;> rfl
/-- A device's part of a hidden entry's sum. -/
def term (r : ℕ) (c : Dev nD) (i k : Fin 512) : EReal := ∑ q : Fin 256, n.into r i (col c q) * n.wi r (col c q) k
theorem sum_term (r : ℕ) (i k : Fin 512) : max (∑ c, n.term r c i k) 0 = n.hidden r i k := by
  rw [hidden_eq, sum_cols]; rfl

end Net

end Cert.Mlp

end
-- ==== Proof.Hidden.lean ====
/-
  Over exact numbers each device's rows of the hidden layers, and its columns of the result, are the network's.
-/
module

public import proofs.«01_k».proof.Proof.Exact

@[expose] public section

noncomputable section

namespace Cert.Mlp

open Cert.KernelIdeal Cert.KernelIdeal.Gen Idealize.ShloMosaic

/-- The devices hold a network, cut. -/
structure Cut (g : Given Ideal) (n : Net) : Prop where
  x : ∀ c i q, g.x c (ix2 i q) = n.x i (col c q)
  wi : ∀ r c q k, g.wi r c (ix2 q k) = n.wi r (col c q) k
  wo : ∀ r c p q, g.wo r c (ix2 p q) = n.wo r p (col c q)

/-- Where a device's row lands. -/
theorem rowR_at (d : Dev nD) (a : Fin 32) (k : Fin 512) : (rowR d).emb (ix2 a k) = ix2 (row d a) k := by
  funext b
  match b with
  | 0 => exact Fin.ext (by show 32 * d.val + 1 * a.val = 32 * d.val + a.val; rw [Nat.one_mul])
  | 1 => exact Fin.ext (by show 0 + 1 * k.val = k.val; rw [Nat.one_mul, Nat.zero_add])
theorem rowOR_at (d : Dev nD) (a : Fin 32) (k : Fin 256) : (rowOR d).emb (ix2 a k) = ix2 (row d a) k := by
  funext b
  match b with
  | 0 => exact Fin.ext (by show 32 * d.val + 1 * a.val = 32 * d.val + a.val; rw [Nat.one_mul])
  | 1 => exact Fin.ext (by show 0 + 1 * k.val = k.val; rw [Nat.one_mul, Nat.zero_add])

/-! ## The payloads at an entry -/

theorem pay1_at (v : Vec Ideal S512x256 .f32) (w : Vec Ideal S256x512 .f32) (i k : Fin 512) : k0_pay1 v w (ix2 i k) = ∑ q : Fin 256, v (ix2 i q) * w (ix2 q k) := by
  pointwise [k0_pay1]
theorem pay12_at (h : FVec Ideal S32x512 .f32) (v : Vec Ideal S512x256 .f32) (w : Vec Ideal S256x512 .f32) (a : Fin 32) (k : Fin 512) :
    k0_pay12 h v w (ix2 a k) = ∑ q : Fin 256, (∑ p : Fin 512, h (ix2 a p) * v (ix2 p q)) * w (ix2 q k) := by
  pointwise [k0_pay12, k0_pay10, k0_pay11]
theorem pay13_at (h : FVec Ideal S32x512 .bf16) (v : Vec Ideal S512x256 .f32) (w : Vec Ideal S256x512 .f32) (a : Fin 32) (k : Fin 512) :
    k0_pay13 (k0_pay10 v) (k0_pay11 w) h (ix2 a k) = ∑ q : Fin 256, (∑ p : Fin 512, h (ix2 a p) * v (ix2 p q)) * w (ix2 q k) := by
  pointwise [k0_pay13, k0_pay10, k0_pay11]
theorem pay77_at (h : FVec Ideal S32x512 .f32) (v : Vec Ideal S512x256 .f32) (a : Fin 32) (q : Fin 256) :
    k0_pay77 h v (ix2 a q) = ∑ p : Fin 512, h (ix2 a p) * v (ix2 p q) := by
  pointwise [k0_pay77, k0_pay76]
theorem pay78_at (h : FVec Ideal S32x512 .bf16) (v : Vec Ideal S512x256 .f32) (a : Fin 32) (q : Fin 256) :
    k0_pay78 (k0_pay76 v) h (ix2 a q) = ∑ p : Fin 512, h (ix2 a p) * v (ix2 p q) := by
  pointwise [k0_pay78, k0_pay76]
theorem relu_at (v : FVec Ideal S32x512 .f32) (j : S32x512.Idx) : relu v j = max (v j) 0 := by
  pointwise [relu]
theorem narrow_at (v : FVec Ideal S32x512 .f32) (j : S32x512.Idx) : narrow v j = v j := by
  pointwise [narrow]
theorem addBlock_at (v : FVec Ideal S32x512 .f32) (X : FVec Ideal S32x512 .bf16) (j : S32x512.Idx) : addBlock v X j = v j + X j := by
  pointwise [addBlock]
theorem extf_at (X : FVec Ideal S32x512 .bf16) (j : S32x512.Idx) : (extf .f32 X bitsLt_bf16_f32 : FVec Ideal S32x512 .f32) j = X j := by
  pointwise

variable {g : Given Ideal} {n : Net}

/-- A device's sum is the sum of the parts its peers send, its own with them. -/
theorem accOf_at (own : Dev nD → FVec Ideal S32x512 .f32) (part : Dev nD → Dev nD → FVec Ideal S32x512 .bf16) (c : Dev nD) (j : S32x512.Idx) (h : own c j = part c c j) :
    accOf own part c j = ∑ d, part d c j := by
  rw [← sum_peers c fun d => part d c j, ← h]
  unfold accOf
  generalize own c = o
  induction peers generalizing o with
  | nil => rfl
  | cons k l ih => rw [List.foldl_cons, List.foldl_cons, ih, addBlock_at]

/-- The layers, by induction: the own term, the parts, the hidden rows. -/
theorem level_at (H : Cut g n) (r : ℕ) :
    (∀ c a k, own g r c (ix2 a k) = n.term r c (row c a) k) ∧ (∀ c d a k, part g r c d (ix2 a k) = n.term r c (row d a) k)
      ∧ ∀ c a k, relu (acc g r c) (ix2 a k) = n.hidden r (row c a) k := by
  have last (r : ℕ) (ho : ∀ c a k, own g r c (ix2 a k) = n.term r c (row c a) k) (hp : ∀ c d a k, part g r c d (ix2 a k) = n.term r c (row d a) k) (c : Dev nD) (a : Fin 32) (k : Fin 512) :
      relu (acc g r c) (ix2 a k) = n.hidden r (row c a) k := by
    rw [relu_at, ← n.sum_term]
    refine congrArg (max · 0) ?_
    refine (accOf_at (own g r) (part g r) c _ ((ho c a k).trans (hp c c a k).symm)).trans (Finset.sum_congr rfl fun d _ => hp d c a k)
  induction r with
  | zero =>
    have hp (c d : Dev nD) (a : Fin 32) (k : Fin 512) : part g 0 c d (ix2 a k) = n.term 0 c (row d a) k := by
      rw [part_zero, rowR_at, pay1_at]
      exact Finset.sum_congr rfl fun q _ => by rw [H.x, H.wi]; rfl
    have ho (c : Dev nD) (a : Fin 32) (k : Fin 512) : own g 0 c (ix2 a k) = n.term 0 c (row c a) k := by
      rw [own_zero, extf_at, hp]
    exact ⟨ho, hp, last 0 ho hp⟩
  | succ r ih =>
    have hh := ih.2.2
    have ho (c : Dev nD) (a : Fin 32) (k : Fin 512) : own g (r + 1) c (ix2 a k) = n.term (r + 1) c (row c a) k := by
      rw [own_succ, pay12_at]
      exact Finset.sum_congr rfl fun q _ => congrArg₂ (· * ·) (Finset.sum_congr rfl fun p _ => by rw [hh, H.wo]) (H.wi _ _ _ _)
    have hp (c d : Dev nD) (a : Fin 32) (k : Fin 512) : part g (r + 1) c d (ix2 a k) = n.term (r + 1) c (row d a) k := by
      rw [part_succ, pay13_at]
      exact Finset.sum_congr rfl fun q _ => congrArg₂ (· * ·) (Finset.sum_congr rfl fun p _ => by rw [hid_eq, narrow_at, hh, H.wo]) (H.wi _ _ _ _)
    exact ⟨ho, hp, last _ ho hp⟩

/-- Device `c`'s columns of the result. -/
theorem outAt_at (H : Cut g n) (c : Dev nD) (i : Fin 512) (q : Fin 256) : outAt g c (ix2 i q) = n.into 3 i (col c q) := by
  obtain ⟨d, a, rfl⟩ := row_surj i
  have hh := (level_at H 2).2.2
  rw [← rowOR_at, ← outAt_rows]
  unfold outRows
  split
  · next e =>
    subst e
    rw [pay77_at]
    exact Finset.sum_congr rfl fun p _ => by rw [hh, H.wo]
  · rw [pay78_at]
    exact Finset.sum_congr rfl fun p _ => by rw [hid_eq, narrow_at, hh, H.wo]

end Cert.Mlp

end
-- ==== Proof.Plain.lean ====
/-
  The reference's composed term, entry by entry.
-/
module

public import proofs.«01_k».proof.Proof.Exact
public import proofs.«01_k».proof.Proof.Gen.ReferenceIdeal

@[expose] public section

noncomputable section

namespace Cert.Mlp

open Cert.ReferenceIdeal Cert.ReferenceIdeal.Gen Idealize.ShloMosaic

/-- A network from its whole arrays. -/
def netOf (x wo₀ wo₁ wo₂ : Vec Ideal S512x4096 .f32) (wi₀ wi₁ wi₂ : Vec Ideal S4096x512 .f32) : Net where
  x i q := x (ix2 i q)
  wi := fun | 0 => fun q k => wi₀ (ix2 q k) | 1 => fun q k => wi₁ (ix2 q k) | _ => fun q k => wi₂ (ix2 q k)
  wo := fun | 0 => fun p q => wo₀ (ix2 p q) | 1 => fun p q => wo₁ (ix2 p q) | _ => fun p q => wo₂ (ix2 p q)

/-- A layer as the reference writes it: the hidden entries, then what they make. -/
def hiddenF (y : FVec Ideal S512x4096 .f32) (w : FVec Ideal S4096x512 .f32) : FVec Ideal S512x512 .f32 :=
  maximumf (Host.dotGeneral dot_S512x4096_S4096x512_S512x512_1_0_0_1_n_n none y w) (broadcastInDim S512x512 ![] bcast_S_S512x512 (constant S_ .f32 0x00000000#32))
def layerF (y : FVec Ideal S512x4096 .f32) (wi : FVec Ideal S4096x512 .f32) (wo : FVec Ideal S512x4096 .f32) : FVec Ideal S512x4096 .f32 :=
  Host.dotGeneral dot_S512x512_S512x4096_S512x4096_1_0_0_1_n_n none (hiddenF y wi) wo

theorem layerF_at (y : FVec Ideal S512x4096 .f32) (wi : FVec Ideal S4096x512 .f32) (wo : FVec Ideal S512x4096 .f32) (i : Fin 512) (q : Fin 4096) :
    layerF y wi wo (ix2 i q) = ∑ p : Fin 512, max (∑ r : Fin 4096, y (ix2 i r) * wi (ix2 r p)) 0 * wo (ix2 p q) := by
  pointwise [layerF, hiddenF]

/-- The three layers at an entry. -/
theorem layers_at (x wo₀ wo₁ wo₂ : FVec Ideal S512x4096 .f32) (wi₀ wi₁ wi₂ : FVec Ideal S4096x512 .f32) (i : Fin 512) (q : Fin 4096) :
    layerF (layerF (layerF x wi₀ wo₀) wi₁ wo₁) wi₂ wo₂ (ix2 i q) = (netOf x wo₀ wo₁ wo₂ wi₀ wi₁ wi₂).into 3 i q := by
  have h (r : ℕ) (y : FVec Ideal S512x4096 .f32) (wi : FVec Ideal S4096x512 .f32) (wo : FVec Ideal S512x4096 .f32) (n : Net) (hy : ∀ i q, y (ix2 i q) = n.into r i q)
      (hi : ∀ q k, wi (ix2 q k) = n.wi r q k) (ho : ∀ p q, wo (ix2 p q) = n.wo r p q) (i : Fin 512) (q : Fin 4096) : layerF y wi wo (ix2 i q) = n.into (r + 1) i q := by
    rw [layerF_at]
    refine Finset.sum_congr rfl fun p _ => congrArg₂ (· * ·) ?_ (ho _ _)
    rw [n.hidden_eq]
    exact congrArg (max · 0) (Finset.sum_congr rfl fun r _ => by rw [hy, hi])
  exact h 2 _ _ _ _ (h 1 _ _ _ _ (h 0 _ _ _ _ (fun _ _ => rfl) (fun _ _ => rfl) fun _ _ => rfl) (fun _ _ => rfl) fun _ _ => rfl) (fun _ _ => rfl) (fun _ _ => rfl) i q

end Cert.Mlp

end
-- ==== Proof.Matches.lean ====
/-
  The kernel's result is the reference's, cut by columns.
-/
module

public import proofs.«01_k».proof.Proof.Ends
public import proofs.«01_k».proof.Proof.Hidden
public import proofs.«01_k».proof.Proof.Plain
public import proofs.«01_k».proof.Proof.Gen.ReferenceIdeal.Run
public import proofs.«01_k».proof.Defs

@[expose] public section

noncomputable section

namespace Cert.Mlp

open Idealize.ShloMosaic Idealize.SL.Sem
open Cert.KernelIdeal (nD τ sig S512x256 S256x512)

theorem unit_at (k : ℕ) : 0 + 1 * k = k := by omega

section Staged
variable {F : FTy → Type} [FloatOps F] (m : (ℓ : Loc nD τ sig) → Buf (Elt F) ℓ) (c : Dev nD)
/-- What is staged is what the array holds. -/
theorem stage0_eq : stage0 m c = m ((c.tc : Thread nD τ).loc Cert.KernelIdeal.main_arg0) := by
  refine funext fun j => congrArg (m ((c.tc : Thread nD τ).loc Cert.KernelIdeal.main_arg0)) (funext fun b => Fin.ext ?_)
  match b with | 0 => exact unit_at _ | 1 => exact unit_at _
theorem stage1_eq : stage1 m c = m ((c.tc : Thread nD τ).loc Cert.KernelIdeal.main_arg1) := by
  refine funext fun j => congrArg (m ((c.tc : Thread nD τ).loc Cert.KernelIdeal.main_arg1)) (funext fun b => Fin.ext ?_)
  match b with | 0 => exact unit_at _ | 1 => exact unit_at _
theorem stage2_eq : stage2 m c = m ((c.tc : Thread nD τ).loc Cert.KernelIdeal.main_arg2) := by
  refine funext fun j => congrArg (m ((c.tc : Thread nD τ).loc Cert.KernelIdeal.main_arg2)) (funext fun b => Fin.ext ?_)
  match b with | 0 => exact unit_at _ | 1 => exact unit_at _
theorem stage3_eq : stage3 m c = m ((c.tc : Thread nD τ).loc Cert.KernelIdeal.main_arg3) := by
  refine funext fun j => congrArg (m ((c.tc : Thread nD τ).loc Cert.KernelIdeal.main_arg3)) (funext fun b => Fin.ext ?_)
  match b with | 0 => exact unit_at _ | 1 => exact unit_at _
theorem stage4_eq : stage4 m c = m ((c.tc : Thread nD τ).loc Cert.KernelIdeal.main_arg4) := by
  refine funext fun j => congrArg (m ((c.tc : Thread nD τ).loc Cert.KernelIdeal.main_arg4)) (funext fun b => Fin.ext ?_)
  match b with | 0 => exact unit_at _ | 1 => exact unit_at _
theorem stage5_eq : stage5 m c = m ((c.tc : Thread nD τ).loc Cert.KernelIdeal.main_arg5) := by
  refine funext fun j => congrArg (m ((c.tc : Thread nD τ).loc Cert.KernelIdeal.main_arg5)) (funext fun b => Fin.ext ?_)
  match b with | 0 => exact unit_at _ | 1 => exact unit_at _
theorem stage6_eq : stage6 m c = m ((c.tc : Thread nD τ).loc Cert.KernelIdeal.main_arg6) := by
  refine funext fun j => congrArg (m ((c.tc : Thread nD τ).loc Cert.KernelIdeal.main_arg6)) (funext fun b => Fin.ext ?_)
  match b with | 0 => exact unit_at _ | 1 => exact unit_at _
end Staged

/-- A block's entry in the whole array, cut by columns and by rows. -/
theorem block_cols (c : Dev nD) (X : (⟨2, ![512, 4096]⟩ : Shape).Idx → EReal) (i : Fin 512) (q : Fin 256) :
    Layout.block ⟨2, ![512, 256]⟩ ⟨2, ![512, 4096]⟩ 1 16 c X (by decide) (ix2 i q) = X (ix2 i (col c q)) := by
  rw [Layout.block_apply]
  refine congrArg X (funext fun b => ?_)
  match b with
  | 0 => exact Fin.ext rfl
  | 1 => exact Fin.ext (congrArg (· + q.val) (Nat.mul_comm c.val 256))
theorem block_rows (c : Dev nD) (X : (⟨2, ![4096, 512]⟩ : Shape).Idx → EReal) (q : Fin 256) (k : Fin 512) :
    Layout.block ⟨2, ![256, 512]⟩ ⟨2, ![4096, 512]⟩ 0 16 c X (by decide) (ix2 q k) = X (ix2 (col c q) k) := by
  rw [Layout.block_apply]
  refine congrArg X (funext fun b => ?_)
  match b with
  | 0 => exact Fin.ext (congrArg (· + q.val) (Nat.mul_comm c.val 256))
  | 1 => exact Fin.ext rfl

theorem matches_reference : Cert.algebraic_KernelIdeal_ReferenceIdeal := by
  intro m ρ m' ρ' _ hm
  let A (b : Ref Cert.ReferenceIdeal.sig .tc) := m' (((0 : Dev Cert.ReferenceIdeal.nD).tc : Thread Cert.ReferenceIdeal.nD Cert.ReferenceIdeal.τ).loc b)
  let n : Net := netOf (A Cert.ReferenceIdeal.main_arg0) (A Cert.ReferenceIdeal.main_arg2) (A Cert.ReferenceIdeal.main_arg4) (A Cert.ReferenceIdeal.main_arg6)
    (A Cert.ReferenceIdeal.main_arg1) (A Cert.ReferenceIdeal.main_arg3) (A Cert.ReferenceIdeal.main_arg5)
  have hc : Cut (given m) n := by
    refine ⟨fun c i q => ?_, fun r c q k => ?_, fun r c p q => ?_⟩
    · exact (congrFun ((stage0_eq m c).trans (hm c).1) _).trans (block_cols c _ i q)
    · match r with
      | 0 => exact (congrFun ((stage1_eq m c).trans (hm c).2.1) _).trans (block_rows c _ q k)
      | 1 => exact (congrFun ((stage3_eq m c).trans (hm c).2.2.2.1) _).trans (block_rows c _ q k)
      | _ + 2 => exact (congrFun ((stage5_eq m c).trans (hm c).2.2.2.2.2.1) _).trans (block_rows c _ q k)
    · match r with
      | 0 => exact (congrFun ((stage2_eq m c).trans (hm c).2.2.1) _).trans (block_cols c _ p q)
      | 1 => exact (congrFun ((stage4_eq m c).trans (hm c).2.2.2.2.1) _).trans (block_cols c _ p q)
      | _ + 2 => exact (congrFun ((stage6_eq m c).trans (hm c).2.2.2.2.2.2) _).trans (block_cols c _ p q)
  refine ⟨layerF (layerF (layerF (A Cert.ReferenceIdeal.main_arg0) (A Cert.ReferenceIdeal.main_arg1) (A Cert.ReferenceIdeal.main_arg2)) (A Cert.ReferenceIdeal.main_arg3) (A Cert.ReferenceIdeal.main_arg4))
    (A Cert.ReferenceIdeal.main_arg5) (A Cert.ReferenceIdeal.main_arg6), ?_, ?_⟩
  · refine (θ_run Cert.KernelIdeal.defs _ _).mono (fun _ h c => ⟨((h.1 c).1).trans ?_, (h.1 c).2⟩) (run_ends (F := Ideal) m ρ)
    funext j
    obtain ⟨i, q, rfl⟩ : ∃ (i : Fin 512) (q : Fin 256), j = ix2 i q := ⟨j 0, j 1, eq_ix2 j⟩
    exact (outAt_at hc c i q).trans ((layers_at _ _ _ _ _ _ _ i (col c q)).symm.trans (block_cols c _ i q).symm)
  · exact (θ_run Cert.ReferenceIdeal.defs _ _).mono (fun _ h => h 0) (Cert.ReferenceIdeal.Value.run (F := Ideal) m' ρ')

end Cert.Mlp

end
-- ==== Proof.lean ====
/- The five claims of `Cert.Claim`, put together from the modules beside this file: the program's own
   facts, the three frames (Frames), the idealization, which rewrites nothing, and the equality of the
   kernel's result with the plain product of the layers (Matches). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Matches
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Mlp.frame_kernel, Cert.Mlp.frame_ideal, Cert.Mlp.frame_reference, trivial,
    Cert.Mlp.matches_reference⟩

end Cert.Proof

end
